-- ==== Defs.lean ====
def Pre_Kernel [hPre_next_op_in_range : Cert.Pre_next_op_in_range.Facts] (m : (ℓ : Loc Cert.Kernel.nD Cert.Kernel.τ Cert.Kernel.sig) → Buf (Elt Bits) ℓ) : Prop :=
  ∀ c : Dev Cert.Kernel.nD,
    (Cert.Pre_next_op_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_next_op_in_range : Cert.Pre_next_op_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_next_op_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_next_op_in_range [hPre_next_op_in_range : Cert.Pre_next_op_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_next_op_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_next_op_in_range : Cert.Pre_next_op_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_next_op_in_range : Cert.Pre_next_op_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_next_op_in_range [hReferenceIdeal : Cert.ReferenceIdeal.Facts] [hPre_next_op_in_range : Cert.Pre_next_op_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_next_op_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_next_op_in_range : Cert.Pre_next_op_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_next_op_in_range : Cert.Pre_next_op_in_range.Facts),
    quiescent_Kernel (hKernel := hKernel) (hPre_next_op_in_range := hPre_next_op_in_range)
    ∧ quiescent_KernelIdeal (hKernelIdeal := hKernelIdeal) (hPre_next_op_in_range := hPre_next_op_in_range)
    ∧ quiescent_ReferenceIdeal (hReferenceIdeal := hReferenceIdeal)
    ∧ quiescent_ReferenceIdeal_pre_next_op_in_range (hReferenceIdeal := hReferenceIdeal) (hPre_next_op_in_range := hPre_next_op_in_range)
    ∧ preserves_Kernel_KernelIdeal
    ∧ algebraic_KernelIdeal_ReferenceIdeal (hKernelIdeal := hKernelIdeal) (hReferenceIdeal := hReferenceIdeal) (hPre_next_op_in_range := hPre_next_op_in_range)
-- ==== Pre_next_op_in_range.lean ====
abbrev S128x4096x128 : Shape := ⟨3, ![128, 4096, 128]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S128x1024 : S_.BroadcastsInDim S128x1024 (![] : Fin 0 → Fin S128x1024.rank)

variable [Facts]

def fn {F : FTy → Type} [FloatOps F] (main_arg0 : FVec F S128x4096x128 .f32) (main_arg1 : FVec F S128x1024 .f32) (main_arg2 : FVec F S128x128 .f32) (main_arg3 : FVec F S128 .f32) (main_arg4 : FVec F S128x128 .f32) (main_arg5 : FVec F S128 .f32) (main_arg6 : FVec F S128x1 .f32) (main_arg7 : FVec F S1 .f32) (main_arg8 : IVec S128x1024 32) (main_arg9 : IVec S128x1024 1) : IVec S128x1024 1 :=
  let main_c : IVec S_ 32 := constantI S_ 32 0#32
  let main_v0 : IVec S128x1024 32 := broadcastInDim S128x1024 ![] bcast_S_S128x1024 main_c
  let main_v1 : IVec S128x1024 1 := cmpi .sge main_arg8 main_v0
  let main_c_0 : IVec S_ 32 := constantI S_ 32 4096#32
  let main_v2 : IVec S128x1024 32 := broadcastInDim S128x1024 ![] bcast_S_S128x1024 main_c_0
  let main_v3 : IVec S128x1024 1 := cmpi .slt main_arg8 main_v2
  let main_v4 : IVec S128x1024 1 := andi main_v1 main_v3
  main_v4
-- ==== Kernel.lean ====
abbrev S128x4096x128 : Shape := ⟨3, ![128, 4096, 128]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1 : Shape := ⟨1, ![1]⟩
abbrev S524288x128 : Shape := ⟨2, ![524288, 128]⟩
abbrev S_ : Shape := ⟨0, ![]⟩
abbrev S1x131072 : Shape := ⟨2, ![1, 131072]⟩
abbrev S131072x128 : Shape := ⟨2, ![131072, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1x128x128 : Shape := ⟨3, ![1, 128, 128]⟩
abbrev S1x1 : Shape := ⟨2, ![1, 1]⟩
abbrev S8192x128 : Shape := ⟨2, ![8192, 128]⟩
abbrev S8x1024 : Shape := ⟨2, ![8, 1024]⟩
abbrev S8x1 : Shape := ⟨2, ![8, 1]⟩
abbrev S8192x1 : Shape := ⟨2, ![8192, 1]⟩
abbrev S8 : Shape := ⟨1, ![8]⟩

abbrev nBuf : Table → Nat
  | .hbm => 27
  | .local .tc .vmem => 16
  | .local .scVector .vmem => 2
  | _ => 0

abbrev bufTy : (tb : Table) → Fin (nBuf tb) → BufTy
  | .hbm, ⟨0, _⟩ => ⟨S128x4096x128, .f32⟩
  | .hbm, ⟨1, _⟩ => ⟨S128x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x1024, .i32⟩
  | .hbm, ⟨9, _⟩ => ⟨S128x1024, .i1⟩
  | .hbm, ⟨10, _⟩ => ⟨S524288x128, .f32⟩
  | .hbm, ⟨11, _⟩ => ⟨S128, .i32⟩
  | .hbm, ⟨12, _⟩ => ⟨S_, .i32⟩
  | .hbm, ⟨13, _⟩ => ⟨S128, .i32⟩
  | .hbm, ⟨14, _⟩ => ⟨S128, .i32⟩
  | .hbm, ⟨15, _⟩ => ⟨S128x1, .i32⟩
  | .hbm, ⟨16, _⟩ => ⟨S128x1024, .i32⟩
  | .hbm, ⟨17, _⟩ => ⟨S128x1024, .i32⟩
  | .hbm, ⟨18, _⟩ => ⟨S1x131072, .i32⟩
  | .hbm, ⟨19, _⟩ => ⟨S131072x128, .f32⟩
  | .hbm, ⟨20, _⟩ => ⟨S1x128, .f32⟩
  | .hbm, ⟨21, _⟩ => ⟨S1x128, .f32⟩
  | .hbm, ⟨22, _⟩ => ⟨S1x1, .f32⟩
  | .hbm, ⟨23, _⟩ => ⟨S128x1024, .i32⟩
  | .hbm, ⟨24, _⟩ => ⟨S128x1024, .f32⟩
  | .hbm, ⟨25, _⟩ => ⟨S128x1, .i32⟩
  | .hbm, ⟨26, _⟩ => ⟨S128, .i32⟩
  | .local .tc .vmem, ⟨0, _⟩ => ⟨S8192x128, .f32⟩
  | .local .tc .vmem, ⟨1, _⟩ => ⟨S8192x128, .f32⟩
  | .local .tc .vmem, ⟨2, _⟩ => ⟨S128x128, .f32⟩
  | .local .tc .vmem, ⟨3, _⟩ => ⟨S1x128, .f32⟩
  | .local .tc .vmem, ⟨4, _⟩ => ⟨S128x128, .f32⟩
  | .local .tc .vmem, ⟨5, _⟩ => ⟨S1x128, .f32⟩
  | .local .tc .vmem, ⟨6, _⟩ => ⟨S128x1, .f32⟩
  | .local .tc .vmem, ⟨7, _⟩ => ⟨S1x1, .f32⟩
  | .local .tc .vmem, ⟨8, _⟩ => ⟨S8x1024, .i32⟩
  | .local .tc .vmem, ⟨9, _⟩ => ⟨S8x1024, .i32⟩
  | .local .tc .vmem, ⟨10, _⟩ => ⟨S8x1024, .f32⟩
  | .local .tc .vmem, ⟨11, _⟩ => ⟨S8x1024, .f32⟩
  | .local .tc .vmem, ⟨12, _⟩ => ⟨S8x1024, .f32⟩
  | .local .tc .vmem, ⟨13, _⟩ => ⟨S8x1024, .f32⟩
  | .local .tc .vmem, ⟨14, _⟩ => ⟨S8x1, .i32⟩
  | .local .tc .vmem, ⟨15, _⟩ => ⟨S8x1, .i32⟩
  | .local .scVector .vmem, ⟨0, _⟩ => ⟨S2x1x128, .i32⟩
  | .local .scVector .vmem, ⟨1, _⟩ => ⟨S2x128x128, .f32⟩
  | _, _ => ⟨S128x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 21 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTables nBuf rfl bufTy 4 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_v0_scv : Ref sig .scVector := ⟨.hbm, 10, rfl⟩
abbrev main_v7_scv : Ref sig .scVector := ⟨.hbm, 18, rfl⟩
abbrev main_v8_scv : Ref sig .scVector := ⟨.hbm, 19, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg7_1 : Ref sig .tc := ⟨.vmem, 9, rfl⟩
abbrev cc1_stg8_0 : Ref sig .tc := ⟨.vmem, 10, rfl⟩
abbrev cc1_stg8_1 : Ref sig .tc := ⟨.vmem, 11, rfl⟩
abbrev cc1_stg9_0 : Ref sig .tc := ⟨.vmem, 12, rfl⟩
abbrev cc1_stg9_1 : Ref sig .tc := ⟨.vmem, 13, rfl⟩
abbrev cc1_stg10_0 : Ref sig .tc := ⟨.vmem, 14, rfl⟩
abbrev cc1_stg10_1 : Ref sig .tc := ⟨.vmem, 15, rfl⟩
abbrev cc0_scoped0 : Ref sig .scVector := ⟨.vmem, 0, rfl⟩
abbrev cc0_scoped2 : Ref sig .scVector := ⟨.vmem, 1, rfl⟩
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem7_1 : DmaSem sig := 14
abbrev cc1_sem8_0 : DmaSem sig := 15
abbrev cc1_sem8_1 : DmaSem sig := 16
abbrev cc1_sem9_0 : DmaSem sig := 17
abbrev cc1_sem9_1 : DmaSem sig := 18
abbrev cc1_sem10_0 : DmaSem sig := 19
abbrev cc1_sem10_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_68_r0 : BitVec 32 := 31#32
  let v83_r0 : BitVec 1 := Scalar.cmpi .sge arg5_r0 c31_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c128_i32_100_r0 : BitVec 32 := 128#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c128_i32_99_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x128x128.size a ≤ S2x128x128.size a)
theorem k0_off10_inb : ∀ (arg8_r0 : BitVec 32) (k0_hw2 : k0_chk2 arg8_r0), ∀ a, (k0_off10 arg8_r0) a + S1x128x128.size a ≤ S2x128x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c32_i32_62_r0 : BitVec 32 := 32#32
  let v74_r0 : BitVec 1 := Scalar.cmpi .eq v73_r0 c32_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_55_r0 : BitVec 32 := 31#32
  let v65_r0 : BitVec 1 := Scalar.cmpi .eq arg5_r0 c31_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c128_i32_100_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c128_i32_100_r0 : BitVec 32 := 128#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c31_i32_59_r0 : BitVec 32 := 31#32
  let v70_r0 : BitVec 32 := Scalar.select v69_r0 c31_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x128.size a ≤ S2x128x128.size a) ∧
  (∀ (k0_h5 : k0_cond5 i k0_t1 arg10_r0 = 1#1), ∀ a, (k0_off13 i arg10_r0) a + S128x128.size a ≤ S131072x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x128.size a ≤ S2x128x128.size a) ∧
  (∀ (k0_h7 : k0_cond7 i k0_t1 arg10_r0 = 1#1), ∀ a, (k0_off16 i arg10_r0) a + S128x128.size a ≤ S131072x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x128.size a ≤ S2x128x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x128.size a ≤ S131072x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x128.size a ≤ S2x128x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x128.size a ≤ S131072x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S128x128.size a ≤ S131072x128.size a)
theorem k0_off19_inb : ∀ (i : grid0.Coords) (v33_4_r0 : BitVec 32) (k0_hw5 : k0_chk5 i v33_4_r0), ∀ a, (k0_off19 i v33_4_r0) a + S128x128.size a ≤ S131072x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x128x128.size a ≤ S2x128x128.size a) ∧
  (∀ a, (k0_off20 v33_3_r0) a + S1.size a ≤ S2.size a) ∧
  (∀ a, (k0_off21 v33_3_r0) a + S1x128x128.size a ≤ S2x128x128.size a)
theorem k0_off18_inb : ∀ (v33_3_r0 : BitVec 32) (k0_hw4 : k0_chk4 v33_3_r0), ∀ a, (k0_off18 v33_3_r0) a + S1x128x128.size a ≤ S2x128x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x128.size a ≤ S2x128x128.size a := fun v33_3_r0 k0_hw4 => k0_hw4.2.2

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S8x1024 .i32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S8x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x1 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x4096x128 : Shape := ⟨3, ![128, 4096, 128]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S1 : Shape := ⟨1, ![1]⟩
abbrev S128x1024x1 : Shape := ⟨3, ![128, 1024, 1]⟩
abbrev S_ : Shape := ⟨0, ![]⟩
abbrev S1x1x1 : Shape := ⟨3, ![1, 1, 1]⟩
abbrev S128x1024x128 : Shape := ⟨3, ![128, 1024, 128]⟩
abbrev S1x1x128 : Shape := ⟨3, ![1, 1, 128]⟩

abbrev nBuf : Space → Nat
  | .hbm => 81
  | .vmem => 0
  | .smem => 0
  | _ => 0

abbrev bufTy : (tb : Table) → Fin (tcTables nBuf tb) → BufTy
  | .hbm, ⟨0, _⟩ => ⟨S128x4096x128, .f32⟩
  | .hbm, ⟨1, _⟩ => ⟨S128x1024, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x1024, .i32⟩
  | .hbm, ⟨9, _⟩ => ⟨S128x1024, .i1⟩
  | .hbm, ⟨10, _⟩ => ⟨S128x1024x1, .i32⟩
  | .hbm, ⟨11, _⟩ => ⟨S_, .i32⟩
  | .hbm, ⟨12, _⟩ => ⟨S128x1024x1, .i32⟩
  | .hbm, ⟨13, _⟩ => ⟨S128x1024x1, .i1⟩
  | .hbm, ⟨14, _⟩ => ⟨S_, .i32⟩
  | .hbm, ⟨15, _⟩ => ⟨S128x1024x1, .i32⟩
  | .hbm, ⟨16, _⟩ => ⟨S128x1024x1, .i32⟩
  | .hbm, ⟨17, _⟩ => ⟨S128x1024x1, .i32⟩
  | .hbm, ⟨18, _⟩ => ⟨S1, .i32⟩
  | .hbm, ⟨19, _⟩ => ⟨S_, .i32⟩
  | .hbm, ⟨20, _⟩ => ⟨S128x1024x1, .i32⟩
  | .hbm, ⟨21, _⟩ => ⟨S128x1024x1, .i1⟩
  | .hbm, ⟨22, _⟩ => ⟨S1x1x1, .i32⟩
  | .hbm, ⟨23, _⟩ => ⟨S128x1024x1, .i32⟩
  | .hbm, ⟨24, _⟩ => ⟨S128x1024x1, .i1⟩
  | .hbm, ⟨25, _⟩ => ⟨S128x1024x1, .i1⟩
  | .hbm, ⟨26, _⟩ => ⟨S_, .i1⟩
  | .hbm, ⟨27, _⟩ => ⟨S128x1024, .i1⟩
  | .hbm, ⟨28, _⟩ => ⟨S128x1024x128, .f32⟩
  | .hbm, ⟨29, _⟩ => ⟨S128x1024x128, .i1⟩
  | .hbm, ⟨30, _⟩ => ⟨S_, .f32⟩
  | .hbm, ⟨31, _⟩ => ⟨S128x1024x128, .f32⟩
  | .hbm, ⟨32, _⟩ => ⟨S128x1024x128, .f32⟩
  | .hbm, ⟨33, _⟩ => ⟨S128x1024x128, .f32⟩
  | .hbm, ⟨34, _⟩ => ⟨S1x1x128, .f32⟩
  | .hbm, ⟨35, _⟩ => ⟨S128x1024x128, .f32⟩
  | .hbm, ⟨36, _⟩ => ⟨S128x1024x128, .f32⟩
  | .hbm, ⟨37, _⟩ => ⟨S128x1024x128, .f32⟩
  | .hbm, ⟨38, _⟩ => ⟨S128x1024x128, .f32⟩
  | .hbm, ⟨39, _⟩ => ⟨S1x1x128, .f32⟩
  | .hbm, ⟨40, _⟩ => ⟨S128x1024x128, .f32⟩
  | .hbm, ⟨41, _⟩ => ⟨S128x1024x128, .f32⟩
  | .hbm, ⟨42, _⟩ => ⟨S128x1024x128, .f32⟩
  | .hbm, ⟨43, _⟩ => ⟨S128x1024x1, .f32⟩
  | .hbm, ⟨44, _⟩ => ⟨S1x1x1, .f32⟩
  | .hbm, ⟨45, _⟩ => ⟨S128x1024x1, .f32⟩
  | .hbm, ⟨46, _⟩ => ⟨S128x1024x1, .f32⟩
  | .hbm, ⟨47, _⟩ => ⟨S128x1024, .f32⟩
  | .hbm, ⟨48, _⟩ => ⟨S_, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128x1, .f32⟩
  | .hbm, ⟨58, _⟩ => ⟨S128x1024, .f32⟩
  | .hbm, ⟨59, _⟩ => ⟨S128x1024, .f32⟩
  | .hbm, ⟨60, _⟩ => ⟨S128x1024, .f32⟩
  | .hbm, ⟨61, _⟩ => ⟨S_, .f32⟩
  | .hbm, ⟨62, _⟩ => ⟨S128, .f32⟩
  | .hbm, ⟨63, _⟩ => ⟨S128x1, .f32⟩
  | .hbm, ⟨64, _⟩ => ⟨S128x1, .f32⟩
  | .hbm, ⟨65, _⟩ => ⟨S128x1024, .f32⟩
  | .hbm, ⟨66, _⟩ => ⟨S128x1024, .f32⟩
  | .hbm, ⟨67, _⟩ => ⟨S128x1024, .f32⟩
  | .hbm, ⟨68, _⟩ => ⟨S128x1024, .f32⟩
  | .hbm, ⟨69, _⟩ => ⟨S128x1024, .f32⟩
  | .hbm, ⟨70, _⟩ => ⟨S128x1024, .f32⟩
  | .hbm, ⟨71, _⟩ => ⟨S128x1024, .f32⟩
  | .hbm, ⟨72, _⟩ => ⟨S_, .f32⟩
  | .hbm, ⟨73, _⟩ => ⟨S_, .f32⟩
  | .hbm, ⟨74, _⟩ => ⟨S128x1024, .f32⟩
  | .hbm, ⟨75, _⟩ => ⟨S128x1024, .f32⟩
  | .hbm, ⟨76, _⟩ => ⟨S128x1024, .i32⟩
  | .hbm, ⟨77, _⟩ => ⟨S_, .f32⟩
  | .hbm, ⟨78, _⟩ => ⟨S_, .i32⟩
  | .hbm, ⟨79, _⟩ => ⟨S128, .f32⟩
  | .hbm, ⟨80, _⟩ => ⟨S128, .i32⟩
  | _, _ => ⟨S128x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_c_2 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_c_3 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_cst : Ref sig .tc := ⟨.hbm, 48, rfl⟩
abbrev main_call1_v0 : Ref sig .tc := ⟨.hbm, 49, rfl⟩
abbrev main_call1_v1 : Ref sig .tc := ⟨.hbm, 50, rfl⟩
abbrev main_v17 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_cst_0 : Ref sig .tc := ⟨.hbm, 72, rfl⟩
abbrev main_call3_v0 : Ref sig .tc := ⟨.hbm, 73, rfl⟩
abbrev main_call3_v1 : Ref sig .tc := ⟨.hbm, 74, rfl⟩
abbrev main_v24 : Ref sig .tc := ⟨.hbm, 75, rfl⟩
abbrev main_call4_v0 : Ref sig .tc := ⟨.hbm, 76, rfl⟩
abbrev main_call4_cst : Ref sig .tc := ⟨.hbm, 77, rfl⟩
abbrev main_call4_c : Ref sig .tc := ⟨.hbm, 78, rfl⟩
abbrev main_call4_v1_0 : Ref sig .tc := ⟨.hbm, 79, rfl⟩
abbrev main_v25 : Ref sig .tc := ⟨.hbm, 80, rfl⟩

abbrev nD : Nat := 1
abbrev τ : Topo := Topo.v7x

variable {F : FTy → Type} [FloatOps F]
-- ==== Proof.KerIdeal.Facts.lean ====
/- The loop registers of the gather kernel in closed form: what each trip's five carried words are, which of its
   conditions hold, and where its slices lie, decided over the grid and the trips. -/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KerIdeal

open Cert.KernelIdeal Cert.KernelIdeal.Gen
open Idealize.ShloMosaic Idealize.SL.Sem

/-- The tile's place in the order of the output: subcore first, then core. -/
abbrev tn (i : grid0.Coords) : ℕ := (i 1).val + 16 * (i 0).val

theorem tn_lt (i : grid0.Coords) : tn i < 32 := by
  have h0 : (i 0).val < 2 := (i 0).isLt
  have h1 : (i 1).val < 16 := (i 1).isLt
  unfold tn; omega

/-- The word the kernel adds to a trip's number: 32 windows per tile. -/
abbrev r4 (i : grid0.Coords) : BitVec 32 := BitVec.ofNat 32 (32 * tn i)

/-- The carried words before trip `k`. -/
abbrev r6 (k : ℕ) : BitVec 32 := BitVec.ofNat 32 (min (k + 1) 32)
abbrev r7 (k : ℕ) : BitVec 32 := BitVec.ofNat 32 k
abbrev r9 (k : ℕ) : BitVec 32 := BitVec.ofNat 32 (k - 1)
abbrev r10 (k : ℕ) : BitVec 32 := BitVec.ofNat 32 (k % 32)

theorem trips_eq : k0_t1_loop.trips = 32 := by decide

section
variable (i : grid0.Coords) (k : Fin k0_t1_loop.trips)

theorem cond1_iff : ∀ (i : grid0.Coords) (k : Fin k0_t1_loop.trips), k0_cond1 i k (r10 k) = 1#1 ↔ k.val < 31 := by decide +kernel
theorem cond2_one : ∀ (i : grid0.Coords) (k : Fin k0_t1_loop.trips), k0_cond2 i k (r10 k) = 1#1 := by decide +kernel
theorem cond5_one : ∀ (i : grid0.Coords) (k : Fin k0_t1_loop.trips), k0_cond5 i k (r10 k) = 1#1 := by decide +kernel
theorem cond7_iff : ∀ (i : grid0.Coords) (k : Fin k0_t1_loop.trips), k0_cond7 i k (r10 k) = 1#1 ↔ 0 < k.val := by decide +kernel

theorem chk1_ok : ∀ (i : grid0.Coords) (k : Fin k0_t1_loop.trips), k0_chk1 i k (r6 k) (r7 k) (r7 k) (r9 k) (r10 k) := by decide +kernel
theorem chk2_ok : ∀ (k : Fin k0_t1_loop.trips), k0_chk2 (r7 k) := by decide +kernel
theorem chk3_ok : ∀ (k : Fin k0_t1_loop.trips), k0_chk3 (r7 k) := by decide +kernel
theorem chk4_ok : k0_chk4 (r9 32) := by decide +kernel
theorem chk5_ok : ∀ (i : grid0.Coords), k0_chk5 i (r10 32) := by decide +kernel

theorem off2_at : ∀ (i : grid0.Coords), k0_off2 i = ![0, 4096 * tn i + 128 * 0] := by decide +kernel
theorem off4_at : ∀ (k : Fin k0_t1_loop.trips), k.val < 31 → k0_off4 (r6 k) = ![(k.val + 1) % 2, 0, 0] := by decide +kernel
theorem off5_at : ∀ (i : grid0.Coords) (k : Fin k0_t1_loop.trips), k.val < 31 → k0_off5 i (r10 k) = ![0, 4096 * tn i + 128 * (k.val + 1)] := by decide +kernel
theorem off6_at : ∀ (k : Fin k0_t1_loop.trips), k.val < 31 → k0_off6 (r6 k) = ![(k.val + 1) % 2] := by decide +kernel
theorem off7_at : ∀ (k : Fin k0_t1_loop.trips), k0_off7 (r7 k) = ![k.val % 2, 0, 0] := by decide +kernel
theorem off8_at : ∀ (i : grid0.Coords) (k : Fin k0_t1_loop.trips), k0_off8 i (r10 k) = ![0, 4096 * tn i + 128 * k.val] := by decide +kernel
theorem off9_at : ∀ (k : Fin k0_t1_loop.trips), k0_off9 (r7 k) = ![k.val % 2] := by decide +kernel
theorem off10_at : ∀ (k : Fin k0_t1_loop.trips), k0_off10 (r7 k) = ![k.val % 2, 0, 0] := by decide +kernel
theorem off11_at : ∀ (k : Fin k0_t1_loop.trips), k0_off11 (r7 k) = ![k.val % 2, 0, 0] := by decide +kernel
theorem off12_at : ∀ (k : Fin k0_t1_loop.trips), k0_off12 (r7 k) = ![k.val % 2, 0, 0] := by decide +kernel
theorem off13_at : ∀ (i : grid0.Coords) (k : Fin k0_t1_loop.trips), k0_off13 i (r10 k) = ![4096 * tn i + 128 * k.val, 0] := by decide +kernel
theorem off14_at : ∀ (k : Fin k0_t1_loop.trips), k0_off14 (r7 k) = ![k.val % 2] := by decide +kernel
theorem off15_at : ∀ (k : Fin k0_t1_loop.trips), 0 < k.val → k0_off15 (r9 k) = ![(k.val + 1) % 2, 0, 0] := by decide +kernel
theorem off16_at : ∀ (i : grid0.Coords) (k : Fin k0_t1_loop.trips), 0 < k.val → k0_off16 i (r10 k) = ![4096 * tn i + 128 * (k.val - 1), 0] := by decide +kernel
theorem off17_at : ∀ (k : Fin k0_t1_loop.trips), 0 < k.val → k0_off17 (r9 k) = ![(k.val + 1) % 2] := by decide +kernel
theorem off19_at : ∀ (i : grid0.Coords), k0_off19 i (r10 32) = ![4096 * tn i + 128 * 31, 0] := by decide +kernel
theorem off20_at : k0_off20 (r9 32) = ![1] := by decide +kernel
theorem off21_at : k0_off21 (r9 32) = ![1, 0, 0] := by decide +kernel

end

end Cert.Proof.KerIdeal

end
-- ==== Proof.KerIdeal.Setup.lean ====
/- The set-up the gather kernel's launch is stated over, and the views a tile's task moves between: its two index
   slots, its two row slots, the windows of the index list and the blocks of the output, each at a closed offset. -/
module

public import proofs.«01_k».proof.Proof.KerIdeal.Facts
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Ring
public import Idealize.ShloMosaic.Lib.Tactic
public import Idealize.ShloMosaic.Lib.ValueIdx

@[expose] public section

noncomputable section

namespace Cert.Proof.KerIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The TensorCore region's rounds algebra: one copy, its duties unnamed. -/
abbrev UP : Type := URounds (GSem nD τ sig) Unit
/-- The handshakes' rounds, the region's rounds, and the counters the transfers take their tokens from. -/
abbrev UU : Type := UH × (UP × Counters)

abbrev MM (F : FTy → Type) : Type := MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) :=
  (Emb.inl : Emb UP (UP × Counters)).trans (embR (A := UH) (B := UP × Counters))

instance EP_landsIn : (EP (F := F)).LandsIn (upEmb : UEmb _ (MT nD τ sig (HIx 1) (Elt F) ℕ UU ℕ)) := by
  unfold EP embR; infer_instance

/-! ## The buffers -/

abbrev xLoc (d : Dev nD) : Loc nD τ sig := (SparseCore.T d).loc main_v0
abbrev iLoc (d : Dev nD) : Loc nD τ sig := (SparseCore.T d).loc main_v7
abbrev oLoc (d : Dev nD) : Loc nD τ sig := (SparseCore.T d).loc main_v8

abbrev xV : Memref sig .scVector .hbm S524288x128 .f32 := Memref.whole main_v0_scv
abbrev iV : Memref sig .scVector .hbm S1x131072 .i32 := Memref.whole main_v7_scv
abbrev oV : Memref sig .scVector .hbm S131072x128 .f32 := Memref.whole main_v8_scv
abbrev aV : Memref sig .scVector .vmem S2x1x128 .i32 := Memref.whole cc0_scoped0
abbrev rV : Memref sig .scVector .vmem S2x128x128 .f32 := Memref.whole cc0_scoped2

abbrev cV (L : grid0.Coords) : Fin τ.nSC := (L 0).castLE hcore0
abbrev jV (L : grid0.Coords) : Fin τ.nSub := (L 1).castLE hsub0
/-- The vector subcore of device `d` at the grid's point `L`. -/
abbrev thr (d : Dev nD) (L : grid0.Coords) : Thread nD τ := V d (cV L) (jV L)

/-! ## Views at an offset -/

abbrev aAt (o : Fin 3 → ℕ) (h : ∀ a, o a + S1x1x128.size a ≤ S2x1x128.size a) : Memref sig .scVector .vmem S1x128 .i32 :=
  (aV.slice (Rect.unit (s := S2x1x128) o S1x1x128.size h) (fun _ => rfl)).squeeze S1x128 squeezes_S1x1x128_S1x128
abbrev rAt (o : Fin 3 → ℕ) (h : ∀ a, o a + S1x128x128.size a ≤ S2x128x128.size a) : Memref sig .scVector .vmem S128x128 .f32 :=
  (rV.slice (Rect.unit (s := S2x128x128) o S1x128x128.size h) (fun _ => rfl)).squeeze S128x128 squeezes_S1x128x128_S128x128
abbrev iAt (o : Fin 2 → ℕ) (h : ∀ a, o a + S1x128.size a ≤ S1x131072.size a) : Memref sig .scVector .hbm S1x128 .i32 :=
  iV.slice (Rect.unit (s := S1x131072) o S1x128.size h) (fun _ => rfl)
abbrev oAt (o : Fin 2 → ℕ) (h : ∀ a, o a + S128x128.size a ≤ S131072x128.size a) : Memref sig .scVector .hbm S128x128 .f32 :=
  oV.slice (Rect.unit (s := S131072x128) o S128x128.size h) (fun _ => rfl)
abbrev semAt (b : DmaSems sig S2) (o : Fin 1 → ℕ) (h : ∀ a, o a + S1.size a ≤ S2.size a) : DmaSem sig :=
  ((b.slice (Rect.unit (s := S2) o S1.size h)).squeeze S_ squeezes_S1_S_).sem
/-- The whole table as the stream addresses it. -/
abbrev xAll : Memref sig .scVector .hbm S524288x128 .f32 :=
  xV.slice (Rect.unit (s := S524288x128) ![0, 0] S524288x128.size inb_S524288x128_S524288x128_0_0) (fun _ => rfl)
/-- An index slot's one row as the stream's list of offsets. -/
abbrev listOf (a : Memref sig .scVector .vmem S1x128 .i32) : Memref sig .scVector .vmem S128 .i32 :=
  (a.slice (Rect.unit (s := S1x128) ![0, 0] S1x128.size inb_S1x128_S1x128_0_0) (fun _ => rfl)).squeeze S128 squeezes_S1x128_S128

/-! ## The slots, the windows and the blocks -/

theorem inb_a (p : ℕ) : ∀ a, (![p % 2, 0, 0] : Fin 3 → ℕ) a + S1x1x128.size a ≤ S2x1x128.size a := by
  have := Nat.mod_lt p (by decide : 0 < 2)
  intro a; fin_cases a <;> simp [S1x1x128, S2x1x128] <;> omega
theorem inb_r (p : ℕ) : ∀ a, (![p % 2, 0, 0] : Fin 3 → ℕ) a + S1x128x128.size a ≤ S2x128x128.size a := by
  have := Nat.mod_lt p (by decide : 0 < 2)
  intro a; fin_cases a <;> simp [S1x128x128, S2x128x128] <;> omega
theorem inb_s (p : ℕ) : ∀ a, (![p % 2] : Fin 1 → ℕ) a + S1.size a ≤ S2.size a := by
  have := Nat.mod_lt p (by decide : 0 < 2)
  intro a; fin_cases a; simp [S1, S2]; omega
theorem inb_i (L : grid0.Coords) (w : ℕ) : ∀ a, (![0, 4096 * tn L + 128 * (w % 32)] : Fin 2 → ℕ) a + S1x128.size a ≤ S1x131072.size a := by
  have := Nat.mod_lt w (by decide : 0 < 32)
  have := tn_lt L
  intro a; fin_cases a <;> simp [S1x128, S1x131072] <;> omega
theorem inb_o (L : grid0.Coords) (w : ℕ) : ∀ a, (![4096 * tn L + 128 * (w % 32), 0] : Fin 2 → ℕ) a + S128x128.size a ≤ S131072x128.size a := by
  have := Nat.mod_lt w (by decide : 0 < 32)
  have := tn_lt L
  intro a; fin_cases a <;> simp [S128x128, S131072x128] <;> omega

/-- Index slot `p mod 2`, row slot `p mod 2`, and the semaphores of their transfers. -/
abbrev aSlot (p : ℕ) := aAt ![p % 2, 0, 0] (inb_a p)
abbrev rSlot (p : ℕ) := rAt ![p % 2, 0, 0] (inb_r p)
abbrev semA (p : ℕ) : DmaSem sig := semAt cc0_scoped1 ![p % 2] (inb_s p)
abbrev semB (p : ℕ) : DmaSem sig := semAt cc0_scoped3 ![p % 2] (inb_s p)
/-- Window `w` of tile `L`'s part of the index list, and block `w` of its part of the output. -/
abbrev iWin (L : grid0.Coords) (w : ℕ) := iAt ![0, 4096 * tn L + 128 * (w % 32)] (inb_i L w)
abbrev oBlk (L : grid0.Coords) (w : ℕ) := oAt ![4096 * tn L + 128 * (w % 32), 0] (inb_o L w)

/-! ## What the gather leaves -/

/-- Row `j` of the result is the table's row named by entry `j` of the list. -/
abbrev gath (fX : S524288x128.Idx → F .f32) (fI : S1x131072.Idx → BitVec 32) : S131072x128.Idx → F .f32 :=
  fun j => fX (ix2 ⟨(fI (ix2 (0 : Fin 1) (j 0))).toNat % 524288, Nat.mod_lt _ (by decide)⟩ (j 1))

end Cert.Proof.KerIdeal
-- ==== Proof.KerIdeal.Steps.lean ====
/- One step of the gather kernel's task at a time: a window's issue and its arrival, the indexed copy of its rows and
   its arrival, a block's issue and its arrival. Each is stated at ANY offsets equal to the closed ones, so that it
   meets the program as printed. -/
module

public import proofs.«01_k».proof.Proof.KerIdeal.Setup

@[expose] public section

noncomputable section

namespace Cert.Proof.KerIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords) (fX : S524288x128.Idx → F .f32) (fI : S1x131072.Idx → BitVec 32)

/-! ## What a slot holds, at rest and while its transfer flies -/

/-- Index slot `p` at rest, with its semaphore at zero and the slot's share of the list. -/
def idxFree (p : ℕ) (q : PosShare TreeShare) : sProp 𝕄 :=
  iprop((∃ f : Buf (Elt F) ((aSlot p).view.loc (thr d L)), (aSlot p).view.loc (thr d L) ↦[(aSlot p).view.set]{fullShare} f)
    ∗ semVal (thr d L, SemLoc.dma (semA p)) 0 ∗ iV.view.loc (thr d L) ↦{q} fI)

/-- Index slot `p` holding window `w`. -/
def idxFull (p w : ℕ) : sProp 𝕄 :=
  iprop(∃ f : Buf (Elt F) ((aSlot p).view.loc (thr d L)), ⌜(aSlot p).view.read (Elt F) f = (iWin L w).view.read (Elt F) fI⌝
    ∗ (aSlot p).view.loc (thr d L) ↦[(aSlot p).view.set]{fullShare} f)

/-- Window `w` on its way into index slot `p`. -/
def idxFly (p w : ℕ) (q : PosShare TreeShare) : sProp 𝕄 :=
  iprop(Transfers.Flight countersEmb (thr d L) (.dma (semA p)) (default : HIx 1) (aSlot 0).view.dmaCredit
      (iprop(idxFull (F := F) d L fI p w ∗ (iWin L w).view.loc (thr d L) ↦[(iWin L w).view.set]{q} fI))
    ∗ (iWin L w).view.loc (thr d L) ↦[Finset.univ \ (iWin L w).view.set]{q} fI)

/-- Row slot `p` at rest, its semaphore at zero. -/
def outFree (p : ℕ) : sProp 𝕄 :=
  iprop((∃ f : Buf (Elt F) ((rSlot p).view.loc (thr d L)), (rSlot p).view.loc (thr d L) ↦[(rSlot p).view.set]{fullShare} f)
    ∗ semVal (thr d L, SemLoc.dma (semB p)) 0)

/-- Row slot `p` holding block `w` of the result. -/
def outFull (p w : ℕ) : sProp 𝕄 :=
  iprop((∃ f : Buf (Elt F) ((rSlot p).view.loc (thr d L)), ⌜(rSlot p).view.read (Elt F) f = (oBlk L w).view.read (Elt F) (gath fX fI)⌝
      ∗ (rSlot p).view.loc (thr d L) ↦[(rSlot p).view.set]{fullShare} f)
    ∗ semVal (thr d L, SemLoc.dma (semB p)) 0)

/-- Block `w` of the output at the result. -/
def blkDone (w : ℕ) : sProp 𝕄 := (oBlk L w).view.loc (thr d L) ↦[(oBlk L w).view.set]{fullShare} gath fX fI
/-- Block `w` of the output at contents `f`. -/
def blkAt (f : S131072x128.Idx → F .f32) (w : ℕ) : sProp 𝕄 := (oBlk L w).view.loc (thr d L) ↦[(oBlk L w).view.set]{fullShare} f

/-- Block `w` on its way out of row slot `p`. -/
def outFly (p w : ℕ) : sProp 𝕄 :=
  Transfers.Flight countersEmb (thr d L) (.dma (semB p)) (default : HIx 1) (oBlk L 0).view.dmaCredit
    (iprop((∃ f : Buf (Elt F) ((rSlot p).view.loc (thr d L)), (rSlot p).view.loc (thr d L) ↦[(rSlot p).view.set]{fullShare} f)
      ∗ blkDone d L fX fI w))

/-! ## The steps -/

local notation "WP" => wp frame (wpE (defs₀ (F := F)) 𝒱₀ (thr d L) none) Set.univ

variable {O : CellTallies nD τ sig (HIx 1)} {W : Waits sig (HIx 1)}

/-- What the window's transfer delivers fills the slot with the window. -/
theorem idx_delivers (p w : ℕ) (q : PosShare TreeShare) (f : Buf (Elt F) ((aSlot p).view.loc (thr d L))) :
    iprop(((aSlot p).view.loc (thr d L) ↦[(aSlot p).view.set]{fullShare}
          (aSlot p).view.write (Elt F) f ((ReadAs.same : ReadAs (Elt F) S1x128 .i32 S1x128 .i32).apply ((iWin L w).view.read (Elt F) fI)) Finset.univ)
        ∗ (iWin L w).view.loc (thr d L) ↦[(iWin L w).view.set]{q} fI)
      ⊢ (iprop(idxFull (F := F) d L fI p w ∗ (iWin L w).view.loc (thr d L) ↦[(iWin L w).view.set]{q} fI) : sProp 𝕄) := by
  unfold idxFull
  iintro ⟨Ha, Hi⟩
  isplitl [Ha]
  · iexists _
    isplitr
    swap; · iexact Ha
    ipureintro
    exact View.read_write_univ _ _
  · iexact Hi

/-- A window's issue. -/
theorem issueIdx {Q : PUnit → sProp 𝕄} (p w : ℕ) (q : PosShare TreeShare) {o1 : Fin 3 → ℕ} {o2 : Fin 2 → ℕ} {o3 : Fin 1 → ℕ}
    (e1 : o1 = ![p % 2, 0, 0]) (e2 : o2 = ![0, 4096 * tn L + 128 * (w % 32)]) (e3 : o3 = ![p % 2]) {h1 h2 h3} {hs hd ht} :
    idxFree (F := F) d L fI p q
      ⊢ iprop((idxFly (F := F) d L fI p w q -∗ Q ⟨⟩)
        -∗ WP (Prog.lift (.enqueueDma (iAt o2 h2) (.here (aAt o1 h1)) (.dma (semAt cc0_scoped1 o3 h3)) hs hd ht)) Q) := by
  subst e1 e2 e3
  unfold idxFree
  iintro ⟨⟨%f, Ha⟩, Hs, Hi⟩ Hk
  ihave Hi2 := (pointsTo_split_subset (q := q) (f := fI) (S := Finset.univ) (Finset.subset_univ (iWin L w).view.set)).1 $$ Hi
  icases Hi2 with ⟨Hi, Hir⟩
  iapply (Transfers.wp_dmaLocal countersEmb 𝒱₀ (thr d L) none (src := iWin L w) (dst := aSlot p) (default : HIx 1) (aSlot 0).view.dmaCredit rfl
    (by decide) (Finset.Subset.refl _)) $$ [Hi Ha Hs]
  · isplitl [Hi]; · iexact Hi
    isplitl [Ha]; · iexact Ha
    iexact Hs
  iintro Hf
  rw [wp_ret]
  imodintro
  iapply Hk
  unfold idxFly
  isplitl [Hf]
  · iapply (Transfers.Flight_mono countersEmb (thr d L) (idx_delivers d L fI p w q f)) $$ Hf
  · iexact Hir

/-- A window's arrival. -/
theorem waitIdx {Q : PUnit → sProp 𝕄} (p w : ℕ) (q : PosShare TreeShare) {o1 : Fin 3 → ℕ} {o2 : Fin 2 → ℕ} {o3 : Fin 1 → ℕ}
    (e1 : o1 = ![p % 2, 0, 0]) (e3 : o3 = ![p % 2]) {h1 h2 h3} {hs hd} :
    iprop(idxFly (F := F) d L fI p w q ∗ owes (thr d L) O W ∗ MayWait (thr d L) (.dma (semA p)) (default : HIx 1) O)
      ⊢ iprop((iprop(idxFull (F := F) d L fI p w ∗ semVal (thr d L, SemLoc.dma (semA p)) 0 ∗ (iV.view.loc (thr d L) ↦{q} fI)
            ∗ owes (thr d L) O (insert (SemLoc.dma (semA p), (default : HIx 1)) W)) -∗ Q ⟨⟩)
        -∗ WP (Prog.lift (.waitDma2 (semAt cc0_scoped1 o3 h3) (iAt o2 h2) (aAt o1 h1) hs hd)) Q) := by
  subst e1 e3
  unfold idxFly
  iintro ⟨⟨Hf, Hir⟩, HO, Hmw⟩ Hk
  iapply (Transfers.wp_waitLocalO countersEmb 𝒱₀ (thr d L) none (default : HIx 1) (rfl : (aSlot p).view.dmaCredit = (aSlot 0).view.dmaCredit)) $$ [Hf HO Hmw]
  · isplitl [Hf]; · iexact Hf
    isplitl [HO]; · iexact HO
    iexact Hmw
  iintro ⟨⟨Ha, Hi⟩, Hs, HO⟩
  rw [wp_ret]
  imodintro
  iapply Hk
  isplitl [Ha]; · iexact Ha
  isplitl [Hs]; · iexact Hs
  isplitl [Hi Hir]
  · iapply (pointsTo_split_subset (q := q) (f := fI) (S := Finset.univ) (Finset.subset_univ (iWin L w).view.set)).2
    isplitl [Hi]; · iexact Hi
    iexact Hir
  iexact HO

/-- What a block's transfer delivers is the block at the result. -/
theorem out_delivers (p w : ℕ) (f : Buf (Elt F) ((rSlot p).view.loc (thr d L))) (fo : S131072x128.Idx → F .f32)
    (hf : (rSlot p).view.read (Elt F) f = (oBlk L w).view.read (Elt F) (gath fX fI)) :
    iprop(((oBlk L w).view.loc (thr d L) ↦[(oBlk L w).view.set]{fullShare}
          (oBlk L w).view.write (Elt F) fo ((ReadAs.same : ReadAs (Elt F) S128x128 .f32 S128x128 .f32).apply ((rSlot p).view.read (Elt F) f)) Finset.univ)
        ∗ (rSlot p).view.loc (thr d L) ↦[(rSlot p).view.set]{fullShare} f)
      ⊢ (iprop((∃ f : Buf (Elt F) ((rSlot p).view.loc (thr d L)), (rSlot p).view.loc (thr d L) ↦[(rSlot p).view.set]{fullShare} f)
          ∗ blkDone d L fX fI w) : sProp 𝕄) := by
  unfold blkDone
  have e : ((oBlk L w).view.loc (thr d L) ↦[(oBlk L w).view.set]{fullShare}
        (oBlk L w).view.write (Elt F) fo ((ReadAs.same : ReadAs (Elt F) S128x128 .f32 S128x128 .f32).apply ((rSlot p).view.read (Elt F) f)) Finset.univ : sProp 𝕄)
      = (oBlk L w).view.loc (thr d L) ↦[(oBlk L w).view.set]{fullShare} gath fX fI := pointsTo_congr fun i hi => by
    obtain ⟨x, -, rfl⟩ := Finset.mem_map.1 hi
    rw [View.write_emb_of_mem _ _ (Finset.mem_univ x), ReadAs.apply_same, hf, View.read_apply, cast_cast, cast_eq]
  rw [e]
  iintro ⟨Ho, Hr⟩
  isplitl [Hr]; · iexists f; iexact Hr
  iexact Ho

/-- A block's issue. -/
theorem issueOut {Q : PUnit → sProp 𝕄} (p w : ℕ) (fo : S131072x128.Idx → F .f32) {o1 : Fin 3 → ℕ} {o2 : Fin 2 → ℕ} {o3 : Fin 1 → ℕ}
    (e1 : o1 = ![p % 2, 0, 0]) (e2 : o2 = ![4096 * tn L + 128 * (w % 32), 0]) (e3 : o3 = ![p % 2]) {h1 h2 h3} {hs hd ht} :
    iprop(outFull d L fX fI p w ∗ blkAt d L fo w)
      ⊢ iprop((outFly d L fX fI p w -∗ Q ⟨⟩)
        -∗ WP (Prog.lift (.enqueueDma (rAt o1 h1) (.here (oAt o2 h2)) (.dma (semAt cc0_scoped3 o3 h3)) hs hd ht)) Q) := by
  subst e1 e2 e3
  unfold outFull blkAt
  iintro ⟨⟨⟨%f, %hf, Hr⟩, Hs⟩, Ho⟩ Hk
  iapply (Transfers.wp_dmaLocal countersEmb 𝒱₀ (thr d L) none (src := rSlot p) (dst := oBlk L w) (default : HIx 1) (oBlk L 0).view.dmaCredit rfl
    (View.dmaCredit_pos _ (by decide)) (Finset.Subset.refl _)) $$ [Hr Ho Hs]
  · isplitl [Hr]; · iexact Hr
    isplitl [Ho]; · iexact Ho
    iexact Hs
  iintro Hf
  rw [wp_ret]
  imodintro
  iapply Hk
  unfold outFly
  iapply (Transfers.Flight_mono countersEmb (thr d L) (out_delivers d L fX fI p w f fo hf)) $$ Hf

/-- A block's arrival. -/
theorem waitOut {Q : PUnit → sProp 𝕄} (p w : ℕ) {o1 : Fin 3 → ℕ} {o2 : Fin 2 → ℕ} {o3 : Fin 1 → ℕ}
    (e3 : o3 = ![p % 2]) {h1 h2 h3} {hs hd} :
    iprop(outFly d L fX fI p w ∗ owes (thr d L) O W ∗ MayWait (thr d L) (.dma (semB p)) (default : HIx 1) O)
      ⊢ iprop((iprop(outFree (F := F) d L p ∗ blkDone d L fX fI w
            ∗ owes (thr d L) O (insert (SemLoc.dma (semB p), (default : HIx 1)) W)) -∗ Q ⟨⟩)
        -∗ WP (Prog.lift (.waitDma2 (semAt cc0_scoped3 o3 h3) (rAt o1 h1) (oAt o2 h2) hs hd)) Q) := by
  subst e3
  unfold outFly
  iintro ⟨Hf, HO, Hmw⟩ Hk
  iapply (Transfers.wp_waitLocalO countersEmb 𝒱₀ (thr d L) none (default : HIx 1) (rfl : (oAt o2 h2).view.dmaCredit = (oBlk L 0).view.dmaCredit)) $$ [Hf HO Hmw]
  · isplitl [Hf]; · iexact Hf
    isplitl [HO]; · iexact HO
    iexact Hmw
  iintro ⟨⟨Hr, Ho⟩, Hs, HO⟩
  rw [wp_ret]
  imodintro
  iapply Hk
  unfold outFree
  isplitl [Hr Hs]
  · isplitl [Hr]; · iexact Hr
    iexact Hs
  isplitl [Ho]; · iexact Ho
  iexact HO

end Cert.Proof.KerIdeal
-- ==== Proof.KerIdeal.Gather.lean ====
/- The indexed copy of one window's rows, and its arrival: the rows named by the window, in the row slot. -/
module

public import proofs.«01_k».proof.Proof.KerIdeal.Steps
public import Idealize.ShloMosaic.Lib.VecWindow

@[expose] public section

noncomputable section

namespace Cert.Proof.KerIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords) (fX : S524288x128.Idx → F .f32) (fI : S1x131072.Idx → BitVec 32)

/-- The list's place `y` of window `w` is the list's entry `4096 n + 128 w + y`. -/
theorem win_emb (w : ℕ) (y : S1x128.Idx) :
    (iWin L w).view.emb y = ix2 (0 : Fin 1) ⟨4096 * tn L + 128 * (w % 32) + (y 1).val, by
      have := tn_lt L; have := Nat.mod_lt w (by decide : 0 < 32); have : (y 1).val < 128 := (y 1).isLt; omega⟩ := by
  funext a
  refine Fin.ext ?_
  have : (y 0).val < 1 := (y 0).isLt
  fin_cases a
  · show 0 + 1 * (y 0).val = 0
    omega
  · show 4096 * tn L + 128 * (w % 32) + 1 * (y 1).val = _
    simp

theorem blk_emb (w : ℕ) (x : S128x128.Idx) :
    (oBlk L w).view.emb x = ix2 ⟨4096 * tn L + 128 * (w % 32) + (x 0).val, by
      have := tn_lt L; have := Nat.mod_lt w (by decide : 0 < 32); have : (x 0).val < 128 := (x 0).isLt; omega⟩ (x 1) := by
  funext a
  refine Fin.ext ?_
  fin_cases a
  · show 4096 * tn L + 128 * (w % 32) + 1 * (x 0).val = _
    simp
  · show 0 + 1 * (x 1).val = _
    simp

theorem xAll_emb (x : S524288x128.Idx) : xAll.view.emb x = x := by
  funext a
  refine Fin.ext ?_
  fin_cases a
  · show 0 + 1 * (x 0).val = _
    simp
  · show 0 + 1 * (x 1).val = _
    simp

/-- The stream's list off a filled index slot. -/
theorem list_read (p w : ℕ) (f : Buf (Elt F) ((aSlot p).view.loc (thr d L)))
    (hf : (aSlot p).view.read (Elt F) f = (iWin L w).view.read (Elt F) fI) (y : S128.Idx) :
    (listOf (aSlot p)).view.read (Elt F) f y = fI (ix2 (0 : Fin 1) ⟨4096 * tn L + 128 * (w % 32) + (y 0).val, by
      have := tn_lt L; have := Nat.mod_lt w (by decide : 0 < 32); have : (y 0).val < 128 := (y 0).isLt; omega⟩) := by
  have e := congrFun (Memref.read_squeeze_full (Val := Elt F) (aSlot p) inb_S1x128_S1x128_0_0 squeezes_S1x128_S128 f) y
  refine e.trans ?_
  rw [hf, View.read_apply, cast_eq, win_emb]
  congr 1
  have h : Shape.reshapeEquiv squeezes_S1x128_S128.numel_eq y = Fin.cons ⟨0, Nat.one_pos⟩ y := Shape.reshapeEquiv_cons_one _ y
  rw [h]; rfl

/-- What the stream moves into a row slot is the block of the result. -/
theorem gather_value (hin : ∀ x, (fI x).toNat < 524288) (p w : ℕ) (f : Buf (Elt F) ((aSlot p).view.loc (thr d L)))
    (hf : (aSlot p).view.read (Elt F) f = (iWin L w).view.read (Elt F) fI) (hn) (hin') :
    SparseCore.gatherPayload gathers_S524288x128_S128x128 (xAll.view.read (Elt F) fX)
        (SparseCore.rows ((listOf (aSlot p)).view.read (Elt F) f) hn hin')
      = (oBlk L w).view.read (Elt F) (gath fX fI) := by
  funext x
  unfold SparseCore.gatherPayload
  rw [View.read_apply, View.read_apply, cast_eq, cast_eq, xAll_emb, blk_emb]
  show fX _ = fX _
  congr 1
  funext b
  refine Fin.ext ?_
  fin_cases b
  · have e := congrArg Fin.val (Shape.Gathers.idx_axis gathers_S524288x128_S128x128
      (SparseCore.rows ((listOf (aSlot p)).view.read (Elt F) f) hn hin') x)
    refine e.trans ?_
    unfold SparseCore.rows
    simp only
    rw [list_read d L fI p w f hf]
    show _ = (fI _).toNat % 524288
    rw [Nat.mod_eq_of_lt (hin _)]
    congr 3
    refine Fin.ext ?_
    simp only
    congr 1
    have e := Shape.rowMajor_val_one (S128.rowMajor.symm (Fin.cast hn.symm (x gathers_S524288x128_S128x128.axis')))
    rw [Equiv.apply_symm_apply] at e
    exact e.symm
  · exact Shape.Gathers.idx_of_ne gathers_S524288x128_S128x128 _ x 1 (by decide)

local notation "WP" => wp frame (wpE (defs₀ (F := F)) 𝒱₀ (thr d L) none) Set.univ

variable {O : CellTallies nD τ sig (HIx 1)} {W : Waits sig (HIx 1)}

/-- The indexed copy and its arrival. -/
theorem gatherStep {Q : PUnit → sProp 𝕄} (hin : ∀ x, (fI x).toNat < 524288) (p w : ℕ) (q : PosShare TreeShare)
    {o1 o2 : Fin 3 → ℕ} (e1 : o1 = ![p % 2, 0, 0]) (e2 : o2 = ![p % 2, 0, 0]) {h1 h2} {hp hn hsrc he hsp hr hs hd} :
    iprop(idxFull (F := F) d L fI p w ∗ outFree (F := F) d L p ∗ (xV.view.loc (thr d L) ↦{q} fX) ∗ semVal (thr d L, SemLoc.dma cc0_scoped4.sem) 0
        ∗ owes (thr d L) O W ∗ MayWait (thr d L) (.dma cc0_scoped4.sem) (default : HIx 1) O)
      ⊢ iprop((iprop((∃ f : Buf (Elt F) ((aSlot p).view.loc (thr d L)), (aSlot p).view.loc (thr d L) ↦[(aSlot p).view.set]{fullShare} f)
            ∗ outFull d L fX fI p w ∗ (xV.view.loc (thr d L) ↦{q} fX) ∗ semVal (thr d L, SemLoc.dma cc0_scoped4.sem) 0
            ∗ owes (thr d L) O (insert (SemLoc.dma cc0_scoped4.sem, (default : HIx 1)) W)) -∗ Q ⟨⟩)
        -∗ WP (SparseCore.enqueueIndirectGather (p := thr d L |>.2) hp xAll (rAt o1 h1) gathers_S524288x128_S128x128 (listOf (aAt o2 h2)) hn cc0_scoped4.sem hsrc he hsp hr)
          fun _ => WP (SparseCore.waitIndirectGather cc0_scoped4.sem xAll (rAt o1 h1) hs hd) Q) := by
  subst e1 e2
  unfold idxFull outFree
  iintro ⟨⟨%f, %hf, Ha⟩, ⟨⟨%fr, Hr⟩, Hsr⟩, Hx, Hs, HO, Hmw⟩ Hk
  ihave Hx2 := (pointsTo_split_subset (q := q) (f := fX) (S := Finset.univ) (Finset.subset_univ xAll.view.set)).1 $$ Hx
  icases Hx2 with ⟨Hx, Hxr⟩
  have hset : (listOf (aSlot p)).view.set = (aSlot p).view.set := by
    have e : (listOf (aSlot p)).view.set = ((aSlot p).view.slice (Rect.unit (s := S1x128) ![0, 0] S1x128.size inb_S1x128_S1x128_0_0)).set :=
      View.set_reshape _ _
    rw [e, View.set_slice]
    have e2 : (Rect.unit (s := S1x128) ![0, 0] S1x128.size inb_S1x128_S1x128_0_0).set = Finset.univ := by
      ext y; simp only [Rect.mem_set_unit, Finset.mem_univ, iff_true]
      intro a; have := (y a).isLt; fin_cases a <;> simp at * <;> omega
    rw [e2]; rfl
  have hl : ((aSlot p).view.loc (thr d L) ↦[(aSlot p).view.set]{fullShare} f : sProp 𝕄)
      = (listOf (aSlot p)).view.loc (thr d L) ↦[(listOf (aSlot p)).view.set]{fullShare} f := by rw [hset]
  have hin' : ∀ x, ((listOf (aSlot p)).view.read (Elt F) f x).toNat < S524288x128.size gathers_S524288x128_S128x128.axis := by
    intro x; rw [list_read d L fI p w f hf]; exact hin _
  have hN : ∑ j, ((rSlot p).slice (S128x128.rowRect gathers_S524288x128_S128x128.axis' j)
        (S128x128.stride_rowRect gathers_S524288x128_S128x128.axis' j)).view.dmaCredit = (rSlot 0).view.dmaCredit := by
    have e : ∀ j, ((rSlot p).slice (S128x128.rowRect gathers_S524288x128_S128x128.axis' j)
        (S128x128.stride_rowRect gathers_S524288x128_S128x128.axis' j)).view.dmaCredit
      = ((rSlot 0).slice (S128x128.rowRect gathers_S524288x128_S128x128.axis' j)
        (S128x128.stride_rowRect gathers_S524288x128_S128x128.axis' j)).view.dmaCredit := fun _ => rfl
    rw [Finset.sum_congr rfl fun j _ => e j]
    decide +kernel
  ihave Ha := (Entails.of_eq hl) $$ Ha
  have hb : ∀ {β : Type} (pr : Prog (TpuEff nD τ sig (Elt F) Λ₀ (thr d L).2) PUnit) (R : PUnit → sProp 𝕄),
      WP pr R = WP (pr >>= pure) R := fun pr R => by rw [bind_pure]
  rw [← wp_bind]
  iapply (SparseCore.wp_indirectGatherLocal countersEmb 𝒱₀ (thr d L) none (hg := gathers_S524288x128_S128x128) (src := xAll) (dst := rSlot p)
      (offs := listOf (aSlot p)) (default : HIx 1) (rSlot 0).view.dmaCredit hN (by decide) hin') $$ [Hx Hr Ha Hs]
  · isplitl [Hx]; · iexact Hx
    isplitl [Hr]; · iexact Hr
    isplitl [Ha]; · iexact Ha
    iexact Hs
  iintro Hf
  iapply (Transfers.wp_waitLocalO countersEmb 𝒱₀ (thr d L) none (default : HIx 1) (rfl : (rSlot p).view.dmaCredit = (rSlot 0).view.dmaCredit)) $$ [Hf HO Hmw]
  · isplitl [Hf]; · iexact Hf
    isplitl [HO]; · iexact HO
    iexact Hmw
  iintro ⟨⟨Hr, Hx, Ha⟩, Hs, HO⟩
  rw [wp_ret]
  imodintro
  iapply Hk
  isplitl [Ha]
  · iexists f
    iapply (Entails.of_eq hl.symm)
    iexact Ha
  isplitl [Hr Hsr]
  · unfold outFull
    isplitl [Hr]
    · iexists _
      isplitr
      swap; · iexact Hr
      ipureintro
      rw [View.read_write_univ]
      exact gather_value d L fX fI hin p w f hf _ _
    iexact Hsr
  isplitl [Hx Hxr]
  · iapply (pointsTo_split_subset (q := q) (f := fX) (S := Finset.univ) (Finset.subset_univ xAll.view.set)).2
    isplitl [Hx]; · iexact Hx
    iexact Hxr
  isplitl [Hs]; · iexact Hs
  iexact HO

end Cert.Proof.KerIdeal
-- ==== Proof.KerIdeal.Trip.lean ====
/- One trip of the gather kernel's loop, from what the tile holds before it to what it holds after: the next window
   issued, this window arrived and its rows copied, this block issued, the previous block arrived. -/
module

public import proofs.«01_k».proof.Proof.KerIdeal.Gather

@[expose] public section

noncomputable section

namespace Cert.Proof.KerIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords) (fX : S524288x128.Idx → F .f32) (fI : S1x131072.Idx → BitVec 32)
  (fO : S131072x128.Idx → F .f32)

local notation "WP" => wp frame (wpE (defs₀ (F := F)) 𝒱₀ (thr d L) none) Set.univ

/-- The carried words. -/
abbrev Carry : Type := BitVec 32 × BitVec 32 × BitVec 32 × BitVec 32 × BitVec 32
def carry (k : ℕ) : Carry := (r6 k, r7 k, r7 k, r9 k, r10 k)

/-- Index slot `p`'s half of the tile's share of the list. -/
def half (q : PosShare TreeShare) (p : ℕ) : PosShare TreeShare := if p = 0 then q.left else q.right

/-- Window `w` in flight into slot `p`, or past the last window the slot at rest. -/
def idxRole (q : PosShare TreeShare) (p w : ℕ) : sProp 𝕄 :=
  if w < 32 then idxFly (F := F) d L fI p w (half q p) else idxFree (F := F) d L fI p (half q p)
/-- Before trip `k`, row slot `p`: block `k - 1` on its way out, or before the first the slot at rest. -/
def outRole (p k : ℕ) : sProp 𝕄 :=
  if 0 < k then outFly d L fX fI p (k - 1) else outFree (F := F) d L p

/-- What the tile waits on stays answerable: it has recorded no wait but its own. -/
def owing (O : CellTallies nD τ sig (HIx 1)) (W : Waits sig (HIx 1)) : sProp 𝕄 :=
  iprop(∃ W', ⌜∀ p ∈ W', p ∈ W ∨ p.2 = none⌝ ∗ owes (thr d L) O W')

theorem owing_insert (O : CellTallies nD τ sig (HIx 1)) (W W' : Waits sig (HIx 1)) (sm : SemLoc sig) (h : ∀ p ∈ W', p ∈ W ∨ p.2 = none) :
    (owes (thr d L) O (insert (sm, (default : HIx 1)) W') : sProp 𝕄) ⊢ owing (F := F) d L O W := by
  unfold owing
  iintro H
  iexists _
  isplitr
  swap; · iexact H
  ipureintro
  intro p hp
  rcases Finset.mem_insert.mp hp with hp | hp
  · exact .inr (hp ▸ rfl)
  · exact h p hp

/-- What the tile holds before trip `k`. -/
def Inv (q qx : PosShare TreeShare) (O : CellTallies nD τ sig (HIx 1)) (W : Waits sig (HIx 1)) (k : ℕ) (acc : Carry) : sProp 𝕄 :=
  iprop(⌜acc = carry k⌝ ∗ Transfers.MayWaits (thr d L) (default : HIx 1) O
    ∗ idxRole (F := F) d L fI q (k % 2) k ∗ idxFree (F := F) d L fI ((k + 1) % 2) (half q ((k + 1) % 2))
    ∗ outRole d L fX fI ((k + 1) % 2) k ∗ outFree (F := F) d L (k % 2)
    ∗ bigSep (Ring.rangeSet 32 k 32) (fun b => blkAt d L fO b.val) ∗ bigSep (Ring.rangeSet 32 0 (k - 1)) (fun b => blkDone d L fX fI b.val)
    ∗ (xV.view.loc (thr d L) ↦{qx} fX) ∗ semVal (thr d L, SemLoc.dma cc0_scoped4.sem) 0 ∗ owing (F := F) d L O W)

/-- The block that arrives in trip `k`: none in the first. -/
def lastDone (k : ℕ) : sProp 𝕄 := if 0 < k then blkDone d L fX fI (k - 1) else iprop(emp)

theorem done_grow (k : ℕ) (hk : k < 32) :
    iprop(bigSep (Ring.rangeSet 32 0 (k - 1)) (fun b => blkDone d L fX fI b.val) ∗ lastDone d L fX fI k)
      ⊢ bigSep (Ring.rangeSet 32 0 (k + 1 - 1)) (fun b => blkDone d L fX fI b.val) := by
  unfold lastDone
  by_cases h : 0 < k
  · rw [if_pos h, Nat.add_sub_cancel, Ring.bigSep_rangeSet_last (NB := 32) (lo := 0) (hi := k) h hk.le]
    iintro ⟨H1, H2⟩
    isplitl [H2]; · iexact H2
    iexact H1
  · have : k = 0 := by omega
    subst this
    rw [if_neg h]
    iintro ⟨H1, -⟩
    iexact H1

/-- A conditional that goes on the same way after either side. -/
theorem dite_step {α : Type} {c : Prop} [Decidable c] {A : c → Prog (TpuEff nD τ sig (Elt F) Λ₀ (thr d L).2) PUnit}
    {J : Prog (TpuEff nD τ sig (Elt F) Λ₀ (thr d L).2) α} {Q : α → sProp 𝕄} {R R' : sProp 𝕄}
    (hA : ∀ h, R ⊢ iprop((R' -∗ WP J Q) -∗ WP (A h) fun _ => WP J Q)) (hB : ¬c → R ⊢ R') :
    R ⊢ iprop((R' -∗ WP J Q) -∗ WP (if h : c then A h >>= fun _ => J else J) Q) := by
  by_cases h : c
  · rw [dif_pos h, wp_bind]; exact hA h
  · rw [dif_neg h]
    iintro HR Hk
    iapply Hk
    iapply (hB h) $$ HR

/-- A step's yield weakened. -/
theorem mono_step {R R' R'' A B : sProp 𝕄} (h : R ⊢ iprop((R' -∗ A) -∗ B)) (hR : R' ⊢ R'') : R ⊢ iprop((R'' -∗ A) -∗ B) := by
  iintro HR Hk
  iapply h $$ HR
  iintro H
  iapply Hk
  iapply hR $$ H

/-- A check that holds. -/
theorem check_step {P : Prop} {dec : Decidable P} (h : P) {Q : PLift P → sProp 𝕄} :
    Q ⟨h⟩ ⊢ WP (Prog.lift (.assume P dec)) Q := by
  unfold Prog.lift
  exact fupd_intro.trans (Entails.of_eq (wp_assume_of 𝒱₀ (thr d L) none Set.univ (k := Prog.ret) h).symm)

/-- A value returned. -/
theorem pure_step {α : Type} {Q : α → sProp 𝕄} (a : α) : Q a ⊢ WP (pure a) Q := fupd_intro

/-- The words a trip yields are the next trip's. -/
theorem yield_eq (k : Fin k0_t1_loop.trips) :
    (let arg5 : BitVec 32 := Scf.iv 0#32 1#32 k
     let v66 := Scalar.addi (r10 k) (r4 L)
     let v68 := Scalar.select 1#1 (Scalar.subi (r10 k) 1#32) (r10 k)
     let v71 := Scalar.addi (Scalar.select (Scalar.cmpi .eq v68 4294967295#32) 31#32 v68) (r4 L)
     let v73 := Scalar.select 1#1 (Scalar.addi (r10 k) 1#32) (r10 k)
     let v75 := Scalar.select (Scalar.cmpi .eq v73 32#32) 0#32 v73
     let v76 := Scalar.addi v75 (r4 L)
     let v64 := Scalar.cmpi .eq arg5 0#32
     let v65 := Scalar.cmpi .eq arg5 31#32
     ((Scalar.select (Scalar.andi (Scalar.andi (Scalar.cmpi .ne v66 v76) (Scalar.xori (Scalar.cmpi .sge arg5 31#32) 1#1)) 1#1) (Scalar.addi (r6 k) 1#32) (r6 k),
       Scalar.select (Scalar.ori (Scalar.cmpi .ne v66 v76) v65) (Scalar.addi (r7 k) 1#32) (r7 k),
       Scalar.select (Scalar.andi (Scalar.ori (Scalar.cmpi .ne v66 v76) v65) 1#1) (Scalar.addi (r7 k) 1#32) (r7 k),
       Scalar.select (Scalar.andi (Scalar.andi (Scalar.cmpi .ne v66 v71) (Scalar.xori v64 1#1)) 1#1) (Scalar.addi (r9 k) 1#32) (r9 k),
       v75) : Carry)) = carry (k.val + 1) := by
  revert L k
  decide +kernel

set_option maxHeartbeats 4000000 in
theorem trip (hin : ∀ x, (fI x).toNat < 524288) (q qx : PosShare TreeShare) (O : CellTallies nD τ sig (HIx 1)) (W : Waits sig (HIx 1))
    (k : Fin k0_t1_loop.trips) (acc : Carry) :
    Inv d L fX fI fO q qx O W k acc
      ⊢ WP (k0_t1_body L xV (Memref.isWhole_whole _) iV (Memref.isWhole_whole _) oV (Memref.isWhole_whole _) aV (Memref.isWhole_whole _) cc0_scoped1
          rV (Memref.isWhole_whole _) cc0_scoped3 cc0_scoped4 (r4 L) k acc) (Inv d L fX fI fO q qx O W (k.val + 1)) := by
  unfold Inv
  iintro ⟨%hacc, #Hmw, Hi, Hif, Hout, Hof, Hahead, Hdone, Hx, Hsg, HO⟩
  subst hacc
  ihave HO := (show owing (F := F) d L O W ⊢ iprop(∃ W', ⌜∀ p ∈ W', p ∈ W ∨ p.2 = none⌝ ∗ owes (thr d L) O W') from .rfl) $$ HO
  icases HO with ⟨%W', %hW, HO⟩
  have hk : k.val < 32 := lt_of_lt_of_eq k.isLt trips_eq
  unfold carry k0_t1_body
  simp only [k0_part1_eq_skeleton, k0_part2_eq_skeleton]
  unfold k0_part1_skel k0_part2_skel
  simp only [wp_bind, pure_bind, ite_self]
  iapply (check_step d L (chk3_ok k))
  iapply (check_step d L (chk2_ok k))
  iapply (check_step d L (chk1_ok L k))
  -- the next window's issue
  iapply (dite_step d L (R := idxFree (F := F) d L fI ((k.val + 1) % 2) (half q ((k.val + 1) % 2)))
    (R' := idxRole (F := F) d L fI q ((k.val + 1) % 2) (k.val + 1)) ?_ ?_) $$ Hif
  · intro h
    have h31 := (cond1_iff L k).1 h
    unfold idxRole
    rw [if_pos (by omega : k.val + 1 < 32)]
    have e1 : k0_off4 (r6 k) = ![(k.val + 1) % 2 % 2, 0, 0] := by rw [off4_at k h31, Nat.mod_mod]
    have e2 : k0_off5 L (r10 k) = ![0, 4096 * tn L + 128 * ((k.val + 1) % 32)] := by
      rw [off5_at L k h31, Nat.mod_eq_of_lt (by omega : k.val + 1 < 32)]
    have e3 : k0_off6 (r6 k) = ![(k.val + 1) % 2 % 2] := by rw [off6_at k h31, Nat.mod_mod]
    exact issueIdx (F := F) (Q := fun _ => _) d L fI ((k.val + 1) % 2) (k.val + 1) _ e1 e2 e3
  · intro h
    have h31 : ¬k.val < 31 := fun h' => h ((cond1_iff L k).2 h')
    unfold idxRole
    rw [if_neg (by omega : ¬k.val + 1 < 32)]
  iintro Hnext
  iapply (pure_step d L)
  dsimp only
  -- this window's arrival
  iapply (dite_step d L (R := iprop(idxRole (F := F) d L fI q (k.val % 2) k.val ∗ owes (thr d L) O W'
        ∗ MayWait (thr d L) (.dma (semA (k.val % 2))) (default : HIx 1) O))
    (R' := iprop(idxFull (F := F) d L fI (k.val % 2) k.val ∗ semVal (thr d L, SemLoc.dma (semA (k.val % 2))) 0
      ∗ (iV.view.loc (thr d L) ↦{half q (k.val % 2)} fI)
      ∗ owes (thr d L) O (insert (SemLoc.dma (semA (k.val % 2)), (default : HIx 1)) W'))) ?_ ?_) $$ [Hi HO]
  · intro h
    unfold idxRole
    rw [if_pos hk]
    have e1 : k0_off7 (r7 k) = ![k.val % 2 % 2, 0, 0] := by rw [off7_at k, Nat.mod_mod]
    have e3 : k0_off9 (r7 k) = ![k.val % 2 % 2] := by rw [off9_at k, Nat.mod_mod]
    exact waitIdx (F := F) (Q := fun _ => _) d L fI (k.val % 2) k.val _ e1 e3
  · intro h
    exact absurd (cond2_one L k) h
  · isplitl [Hi]; · iexact Hi
    isplitl [HO]; · iexact HO
    iapply (Transfers.MayWaits.elim (SemLoc.dma (semA (k.val % 2)))) $$ Hmw
  iintro ⟨Hfull, Hsa, Hsh, HO⟩
  -- its rows' copy
  simp only [wp_bind]
  have e10 : k0_off10 (r7 k) = ![k.val % 2 % 2, 0, 0] := by rw [off10_at k, Nat.mod_mod]
  have e11 : k0_off11 (r7 k) = ![k.val % 2 % 2, 0, 0] := by rw [off11_at k, Nat.mod_mod]
  iapply (gatherStep d L fX fI hin (k.val % 2) k.val qx e10 e11) $$ [Hfull Hof Hx Hsg HO]
  · isplitl [Hfull]; · iexact Hfull
    isplitl [Hof]; · iexact Hof
    isplitl [Hx]; · iexact Hx
    isplitl [Hsg]; · iexact Hsg
    isplitl [HO]; · iexact HO
    iapply (Transfers.MayWaits.elim (SemLoc.dma cc0_scoped4.sem)) $$ Hmw
  iintro ⟨Ha, Hor, Hx, Hsg, HO⟩
  iapply (pure_step d L)
  ihave Hif' := (show iprop((∃ f : Buf (Elt F) ((aSlot (k.val % 2)).view.loc (thr d L)), (aSlot (k.val % 2)).view.loc (thr d L) ↦[(aSlot (k.val % 2)).view.set]{fullShare} f)
      ∗ semVal (thr d L, SemLoc.dma (semA (k.val % 2))) 0 ∗ iV.view.loc (thr d L) ↦{half q (k.val % 2)} fI)
    ⊢ idxFree (F := F) d L fI (k.val % 2) (half q (k.val % 2)) from .rfl) $$ [Ha Hsa Hsh]
  · isplitl [Ha]; · iexact Ha
    isplitl [Hsa]; · iexact Hsa
    iexact Hsh
  -- this block's issue
  ihave Hahead' := (Entails.of_eq (Ring.bigSep_rangeSet_head (NB := 32) (Φ := fun b => (blkAt d L fO b.val : sProp 𝕄)) hk hk)) $$ Hahead
  icases Hahead' with ⟨Hblk, Hahead⟩
  iapply (dite_step d L (R := iprop(outFull d L fX fI (k.val % 2) k.val ∗ blkAt d L fO k.val))
    (R' := outFly d L fX fI (k.val % 2) k.val) ?_ ?_) $$ [Hor Hblk]
  · intro h
    have e1 : k0_off12 (r7 k) = ![k.val % 2 % 2, 0, 0] := by rw [off12_at k, Nat.mod_mod]
    have e2 : k0_off13 L (r10 k) = ![4096 * tn L + 128 * (k.val % 32), 0] := by rw [off13_at L k, Nat.mod_eq_of_lt hk]
    have e3 : k0_off14 (r7 k) = ![k.val % 2 % 2] := by rw [off14_at k, Nat.mod_mod]
    exact issueOut (F := F) (Q := fun _ => _) d L fX fI (k.val % 2) k.val fO e1 e2 e3
  · intro h
    exact absurd (cond5_one L k) h
  · isplitl [Hor]; · iexact Hor
    iexact Hblk
  iintro Hfly
  -- the previous block's arrival
  have hW1 : ∀ p ∈ insert (SemLoc.dma cc0_scoped4.sem, (default : HIx 1)) (insert (SemLoc.dma (semA (k.val % 2)), (default : HIx 1)) W'), p ∈ W ∨ p.2 = none := by
    intro p hp
    rcases Finset.mem_insert.mp hp with hp | hp
    · exact .inr (hp ▸ rfl)
    rcases Finset.mem_insert.mp hp with hp | hp
    · exact .inr (hp ▸ rfl)
    · exact hW p hp
  generalize insert (SemLoc.dma cc0_scoped4.sem, (default : HIx 1)) (insert (SemLoc.dma (semA (k.val % 2)), (default : HIx 1)) W') = W1 at hW1
  iapply (dite_step d L (R := iprop(outRole d L fX fI ((k.val + 1) % 2) k.val ∗ owes (thr d L) O W1
        ∗ MayWait (thr d L) (.dma (semB ((k.val + 1) % 2))) (default : HIx 1) O))
    (R' := iprop(outFree (F := F) d L ((k.val + 1) % 2) ∗ lastDone d L fX fI k.val ∗ owing (F := F) d L O W)) ?_ ?_) $$ [Hout HO]
  · intro h
    have h0 := (cond7_iff L k).1 h
    unfold outRole lastDone
    rw [if_pos h0, if_pos h0]
    have e3 : k0_off17 (r9 k) = ![(k.val + 1) % 2 % 2] := by rw [off17_at k h0, Nat.mod_mod]
    refine mono_step (R' := iprop(outFree (F := F) d L ((k.val + 1) % 2) ∗ blkDone d L fX fI (k.val - 1)
            ∗ owes (thr d L) O (insert (SemLoc.dma (semB ((k.val + 1) % 2)), (default : HIx 1)) W1))) ?_ ?_
    · exact waitOut (F := F) (Q := fun _ => _) d L fX fI ((k.val + 1) % 2) (k.val - 1) e3
    iintro ⟨H1, H2, H3⟩
    isplitl [H1]; · iexact H1
    isplitl [H2]; · iexact H2
    iapply (owing_insert d L O W W1 _ hW1) $$ H3
  · intro h
    have h0 : ¬0 < k.val := fun h' => h ((cond7_iff L k).2 h')
    unfold outRole lastDone
    rw [if_neg h0, if_neg h0]
    iintro ⟨H1, H2, -⟩
    isplitl [H1]; · iexact H1
    isplitr
    swap
    · unfold owing
      iexists W1
      isplitr
      swap; · iexact H2
      ipureintro; exact hW1
    · iempintro
  · isplitl [Hout]; · iexact Hout
    isplitl [HO]; · iexact HO
    iapply (Transfers.MayWaits.elim (SemLoc.dma (semB ((k.val + 1) % 2)))) $$ Hmw
  iintro ⟨Hof, Hlast, HO⟩
  iapply (pure_step d L)
  have e2 : (k.val + 1 + 1) % 2 = k.val % 2 := by omega
  simp only [e2]
  isplitr
  · ipureintro; exact yield_eq L k
  isplitr
  · iexact Hmw
  isplitl [Hnext]; · iexact Hnext
  isplitl [Hif']; · iexact Hif'
  isplitl [Hfly]
  · unfold outRole
    rw [if_pos (by omega : 0 < k.val + 1), Nat.add_sub_cancel]
    iexact Hfly
  isplitl [Hof]; · iexact Hof
  isplitl [Hahead]; · iexact Hahead
  isplitl [Hdone Hlast]
  · iapply (done_grow d L fX fI k.val hk) $$ [Hdone Hlast]
    isplitl [Hdone]; · iexact Hdone
    iexact Hlast
  isplitl [Hx]; · iexact Hx
  isplitl [Hsg]; · iexact Hsg
  iexact HO

end Cert.Proof.KerIdeal
-- ==== Proof.KerIdeal.Split.lean ====
/- What a tile starts from, cut into what its steps run on: its part of the output into blocks, its scratch buffers
   into slots, its semaphores one by one. -/
module

public import proofs.«01_k».proof.Proof.KerIdeal.Steps

@[expose] public section

noncomputable section

namespace Cert.Proof.KerIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords) (fX : S524288x128.Idx → F .f32) (fI : S1x131072.Idx → BitVec 32)
  (fO : S131072x128.Idx → F .f32)

/-! ## The output's blocks -/

/-- The elements of the output that tile `n` writes. -/
def tset (n : ℕ) : Finset S131072x128.Idx := Finset.univ.filter fun j => (j 0).val / 4096 = n

theorem mem_blk (w : ℕ) (j : S131072x128.Idx) :
    j ∈ (oBlk L w).view.set ↔ 4096 * tn L + 128 * (w % 32) ≤ (j 0).val ∧ (j 0).val < 4096 * tn L + 128 * (w % 32) + 128 := by
  have e : (oBlk L w).view.set = (Rect.unit (s := S131072x128) ![4096 * tn L + 128 * (w % 32), 0] S128x128.size (inb_o L w)).set :=
    View.set_slice_whole _ _
  rw [e, Rect.mem_set_unit]
  have h1 : (j 1).val < 128 := (j 1).isLt
  constructor
  · intro h; exact h 0
  · intro h a
    match a with
    | 0 => exact h
    | 1 => exact ⟨Nat.zero_le _, show (j 1).val < 0 + 128 by omega⟩

theorem tset_blocks : (Finset.univ : Finset (Fin 32)).biUnion (fun b => (oBlk L b.val).view.set) = tset (tn L) := by
  ext j
  simp only [Finset.mem_biUnion, Finset.mem_univ, true_and]
  rw [show (j ∈ tset (tn L)) ↔ (j 0).val / 4096 = tn L by unfold tset; simp]
  constructor
  · rintro ⟨b, hb⟩
    have := (mem_blk L b.val j).1 hb
    have := b.isLt
    omega
  · intro h
    refine ⟨⟨(j 0).val / 128 % 32, Nat.mod_lt _ (by decide)⟩, (mem_blk L _ j).2 ?_⟩
    rw [Nat.mod_mod]
    omega

theorem blocks_disjoint : ∀ b ∈ (Finset.univ : Finset (Fin 32)), ∀ b' ∈ (Finset.univ : Finset (Fin 32)), b ≠ b' →
    Disjoint (oBlk L b.val).view.set (oBlk L b'.val).view.set := by
  intro b _ b' _ h
  rw [Finset.disjoint_left]
  intro j hj hj'
  have h1 := (mem_blk L b.val j).1 hj
  have h2 := (mem_blk L b'.val j).1 hj'
  rw [Nat.mod_eq_of_lt b.isLt] at h1
  rw [Nat.mod_eq_of_lt b'.isLt] at h2
  exact h (Fin.ext (by omega))

theorem tile_blocks (f : S131072x128.Idx → F .f32) :
    (oLoc d ↦[tset (tn L)]{fullShare} f : sProp 𝕄) = bigSep (Ring.rangeSet 32 0 32) fun b => blkAt d L f b.val := by
  rw [Ring.rangeSet_univ, ← tset_blocks L]
  exact pointsTo_biUnion (ℓ := oLoc d) Finset.univ (fun b : Fin 32 => (oBlk L b.val).view.set) (blocks_disjoint L)

/-! ## A buffer cut in two -/

theorem cut_two {ℓ : Loc nD τ sig} {A B : Finset (Idx ℓ)} (h : Finset.univ \ A = B) (f : Buf (Elt F) ℓ) :
    (ℓ ↦{fullShare} f : sProp 𝕄) ⊢ iprop((∃ g, ℓ ↦[A]{fullShare} g) ∗ ∃ g, ℓ ↦[B]{fullShare} g) := by
  subst h
  refine (pointsTo_split_subset (Finset.subset_univ A)).1.trans ?_
  iintro ⟨H1, H2⟩
  isplitl [H1]
  · iexists f; iexact H1
  · iexists f; iexact H2

theorem join_two {ℓ : Loc nD τ sig} {A B : Finset (Idx ℓ)} (h : Finset.univ \ A = B) :
    iprop((∃ g, ℓ ↦[A]{fullShare} g) ∗ ∃ g, ℓ ↦[B]{fullShare} g) ⊢ (iprop(∃ f, ℓ ↦{fullShare} f) : sProp 𝕄) := by
  classical
  subst h
  iintro ⟨⟨%g1, H1⟩, ⟨%g2, H2⟩⟩
  iexists (fun i => if i ∈ A then g1 i else g2 i)
  iapply (pointsTo_split_subset (q := fullShare) (f := fun i => if i ∈ A then g1 i else g2 i) (S := Finset.univ) (Finset.subset_univ A)).2
  isplitl [H1]
  · have e : (ℓ ↦[A]{fullShare} g1 : sProp 𝕄) = ℓ ↦[A]{fullShare} (fun i => if i ∈ A then g1 i else g2 i) :=
      pointsTo_congr fun i hi => by simp [hi]
    iapply (Entails.of_eq e) $$ H1
  · have e : (ℓ ↦[Finset.univ \ A]{fullShare} g2 : sProp 𝕄) = ℓ ↦[Finset.univ \ A]{fullShare} (fun i => if i ∈ A then g1 i else g2 i) :=
      pointsTo_congr fun i hi => by simp [(Finset.mem_sdiff.1 hi).2]
    iapply (Entails.of_eq e) $$ H2

/-! ## The slots -/

theorem mem_aSlot (p : ℕ) (j : S2x1x128.Idx) : j ∈ (aSlot p).view.set ↔ (j 0).val = p % 2 := by
  have e : (aSlot p).view.set = (Rect.unit (s := S2x1x128) ![p % 2, 0, 0] S1x1x128.size (inb_a p)).set :=
    (View.set_reshape _ _).trans (View.set_slice_whole _ _)
  rw [e, Rect.mem_set_unit]
  have h1 : (j 1).val < 1 := (j 1).isLt
  have h2 : (j 2).val < 128 := (j 2).isLt
  constructor
  · intro h
    have h0 : p % 2 ≤ (j 0).val ∧ (j 0).val < p % 2 + 1 := h 0
    omega
  · intro h a
    match a with
    | 0 => exact ⟨show p % 2 ≤ (j 0).val by omega, show (j 0).val < p % 2 + 1 by omega⟩
    | 1 => exact ⟨Nat.zero_le _, show (j 1).val < 0 + 1 by omega⟩
    | 2 => exact ⟨Nat.zero_le _, show (j 2).val < 0 + 128 by omega⟩

theorem mem_rSlot (p : ℕ) (j : S2x128x128.Idx) : j ∈ (rSlot p).view.set ↔ (j 0).val = p % 2 := by
  have e : (rSlot p).view.set = (Rect.unit (s := S2x128x128) ![p % 2, 0, 0] S1x128x128.size (inb_r p)).set :=
    (View.set_reshape _ _).trans (View.set_slice_whole _ _)
  rw [e, Rect.mem_set_unit]
  have h1 : (j 1).val < 128 := (j 1).isLt
  have h2 : (j 2).val < 128 := (j 2).isLt
  constructor
  · intro h
    have h0 : p % 2 ≤ (j 0).val ∧ (j 0).val < p % 2 + 1 := h 0
    omega
  · intro h a
    match a with
    | 0 => exact ⟨show p % 2 ≤ (j 0).val by omega, show (j 0).val < p % 2 + 1 by omega⟩
    | 1 => exact ⟨Nat.zero_le _, show (j 1).val < 0 + 128 by omega⟩
    | 2 => exact ⟨Nat.zero_le _, show (j 2).val < 0 + 128 by omega⟩

theorem aSlots : (Finset.univ \ (aSlot 0).view.set : Finset S2x1x128.Idx) = (aSlot 1).view.set := by
  ext j
  have h0 : (j 0).val < 2 := (j 0).isLt
  rw [Finset.mem_sdiff, mem_aSlot, mem_aSlot]
  simp only [Finset.mem_univ, true_and]
  omega

theorem rSlots : (Finset.univ \ (rSlot 0).view.set : Finset S2x128x128.Idx) = (rSlot 1).view.set := by
  ext j
  have h0 : (j 0).val < 2 := (j 0).isLt
  rw [Finset.mem_sdiff, mem_rSlot, mem_rSlot]
  simp only [Finset.mem_univ, true_and]
  omega

/-! ## The tile's own buffers and semaphores -/

abbrev cell (s : DmaSem sig) : GSem nD τ sig := (thr d L, .dma s)

theorem cell_ne {s t : DmaSem sig} (h : s ≠ t) : cell d L s ≠ cell d L t := by
  intro e
  have e2 := congrArg Prod.snd e
  exact h (SemLoc.dma.inj e2)

/-- The semaphores of the tile's that no step touches. -/
abbrev restCells : Finset (GSem nD τ sig) :=
  (((((ownCells (thr d L)).erase (cell d L (semA 0))).erase (cell d L (semA 1))).erase (cell d L (semB 0))).erase (cell d L (semB 1))).erase (cell d L cc0_scoped4.sem)

theorem ownSems0_V :
    (ownSems0 (thr d L) : sProp 𝕄)
      = iprop(semVal (cell d L (semA 0)) 0 ∗ semVal (cell d L (semA 1)) 0 ∗ semVal (cell d L (semB 0)) 0 ∗ semVal (cell d L (semB 1)) 0
          ∗ semVal (cell d L cc0_scoped4.sem) 0 ∗ bigSep (restCells d L) fun g => semVal g 0) := by
  have hm : ∀ s : DmaSem sig, (SemLoc.dma s : SemLoc sig).isScoped .scVector = true → cell d L s ∈ ownCells (thr d L) := fun s h =>
    mem_ownCells.mpr ⟨rfl, h⟩
  unfold SparseCore.Cfg.ownSems0
  rw [SparseCore.bigSep_erase' (hm (semA 0) (by decide)),
    SparseCore.bigSep_erase' (Finset.mem_erase.mpr ⟨cell_ne d L (by decide), hm (semA 1) (by decide)⟩),
    SparseCore.bigSep_erase' (Finset.mem_erase.mpr ⟨cell_ne d L (by decide), Finset.mem_erase.mpr ⟨cell_ne d L (by decide), hm (semB 0) (by decide)⟩⟩),
    SparseCore.bigSep_erase' (Finset.mem_erase.mpr ⟨cell_ne d L (by decide), Finset.mem_erase.mpr ⟨cell_ne d L (by decide),
      Finset.mem_erase.mpr ⟨cell_ne d L (by decide), hm (semB 1) (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), hm cc0_scoped4.sem (by decide)⟩⟩⟩⟩)]

/-- The buffers of the tile's that no step touches. -/
abbrev restRefs : Finset (DevRef τ sig) :=
  ((ownRefs (τ := τ) (.scVector (cV L) (jV L))).erase ((Proc.scVector (cV L) (jV L)).devRef cc0_scoped0)).erase ((Proc.scVector (cV L) (jV L)).devRef cc0_scoped2)

theorem ownBufs_V :
    (ownBufs (thr d L) : sProp 𝕄)
      = iprop((∃ f, (thr d L).loc cc0_scoped0 ↦{fullShare} f) ∗ (∃ f, (thr d L).loc cc0_scoped2 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

end Cert.Proof.KerIdeal
-- ==== Proof.KerIdeal.Tile.lean ====
/- The gather kernel's task on one vector subcore: the first window issued, the loop by its invariant, the last block's
   arrival. -/
module

public import proofs.«01_k».proof.Proof.KerIdeal.Trip
public import proofs.«01_k».proof.Proof.KerIdeal.Split

@[expose] public section

noncomputable section

namespace Cert.Proof.KerIdeal

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (d : Dev nD) (L : grid0.Coords) (fX : S524288x128.Idx → F .f32) (fI : S1x131072.Idx → BitVec 32)
  (fO : S131072x128.Idx → F .f32)

local notation "WP" => wp frame (wpE (defs₀ (F := F)) 𝒱₀ (thr d L) none) Set.univ

theorem base_eq : ∀ L : grid0.Coords,
    Scalar.muli (Scalar.addi (Scalar.addi 0#32 (Scalar.muli (BitVec.ofNat 32 (L 1).val) 1#32)) (Scalar.muli (BitVec.ofNat 32 (L 0).val) 16#32)) 32#32 = r4 L := by
  decide +kernel

theorem carry_zero : ((Scalar.addi 0#32 1#32, 0#32, 0#32, 0#32, 0#32) : Carry) = carry 0 := by decide +kernel

/-- What the tile holds before its first trip. -/
def Start (q qx : PosShare TreeShare) (O : CellTallies nD τ sig (HIx 1)) (W : Waits sig (HIx 1)) : sProp 𝕄 :=
  iprop(Transfers.MayWaits (thr d L) (default : HIx 1) O
    ∗ idxFly (F := F) d L fI 0 0 (half q 0) ∗ idxFree (F := F) d L fI 1 (half q 1)
    ∗ outFree (F := F) d L 1 ∗ outFree (F := F) d L 0
    ∗ bigSep (Ring.rangeSet 32 0 32) (fun b => blkAt d L fO b.val)
    ∗ (xV.view.loc (thr d L) ↦{qx} fX) ∗ semVal (thr d L, SemLoc.dma cc0_scoped4.sem) 0 ∗ owing (F := F) d L O W)

/-- What the tile holds after its last trip. -/
def Finish (q qx : PosShare TreeShare) (O : CellTallies nD τ sig (HIx 1)) (W : Waits sig (HIx 1)) : sProp 𝕄 :=
  iprop(Transfers.MayWaits (thr d L) (default : HIx 1) O
    ∗ idxFree (F := F) d L fI 0 (half q 0) ∗ idxFree (F := F) d L fI 1 (half q 1)
    ∗ outFly d L fX fI 1 31 ∗ outFree (F := F) d L 0
    ∗ bigSep (Ring.rangeSet 32 0 31) (fun b => blkDone d L fX fI b.val)
    ∗ (xV.view.loc (thr d L) ↦{qx} fX) ∗ semVal (thr d L, SemLoc.dma cc0_scoped4.sem) 0 ∗ owing (F := F) d L O W)

theorem start_inv (q qx : PosShare TreeShare) (O : CellTallies nD τ sig (HIx 1)) (W : Waits sig (HIx 1)) :
    Start d L fX fI fO q qx O W ⊢ Inv d L fX fI fO q qx O W 0 (carry 0) := by
  unfold Start Inv idxRole outRole
  rw [if_pos (by decide), if_neg (by decide)]
  iintro ⟨H1, H2, H3, H4, H5, H6, H7, H8, H9⟩
  isplitr
  · ipureintro; rfl
  isplitl [H1]; · iexact H1
  isplitl [H2]; · iexact H2
  isplitl [H3]; · iexact H3
  isplitl [H4]; · iexact H4
  isplitl [H5]; · iexact H5
  isplitl [H6]; · iexact H6
  isplitr
  · rw [Ring.bigSep_rangeSet_empty (by decide)]
    iempintro
  isplitl [H7]; · iexact H7
  isplitl [H8]; · iexact H8
  iexact H9

theorem inv_finish (q qx : PosShare TreeShare) (O : CellTallies nD τ sig (HIx 1)) (W : Waits sig (HIx 1)) (acc : Carry) :
    Inv d L fX fI fO q qx O W 32 acc ⊢ iprop(⌜acc = carry 32⌝ ∗ Finish d L fX fI q qx O W) := by
  unfold Finish Inv idxRole outRole
  rw [if_neg (by decide), if_pos (by decide)]
  iintro ⟨H0, H1, H2, H3, H4, H5, -, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The loop. -/
theorem loop (hin : ∀ x, (fI x).toNat < 524288) (q qx : PosShare TreeShare) (O : CellTallies nD τ sig (HIx 1)) (W : Waits sig (HIx 1))
    {Q : Carry → sProp 𝕄} :
    Start d L fX fI fO q qx O W
      ⊢ iprop((Finish d L fX fI q qx O W -∗ Q (carry 32))
        -∗ WP (Scf.Loop.for k0_t1_loop k0_t1_ok ((Scalar.addi 0#32 1#32, 0#32, 0#32, 0#32, 0#32) : Carry)
          (k0_t1_body L xV (Memref.isWhole_whole _) iV (Memref.isWhole_whole _) oV (Memref.isWhole_whole _) aV (Memref.isWhole_whole _) cc0_scoped1
            rV (Memref.isWhole_whole _) cc0_scoped3 cc0_scoped4 (r4 L))) Q) := by
  rw [carry_zero]
  iintro H Hk
  iapply (Scf.wp_for frame (wpE (defs₀ (F := F)) 𝒱₀ (thr d L) none) Set.univ _ _ _ k0_t1_ok (carry 0) _ (Inv d L fX fI fO q qx O W)
    (trip d L fX fI fO hin q qx O W))
  isplitl [H]
  · iapply (start_inv d L fX fI fO q qx O W) $$ H
  iintro %acc Hi
  ihave Hi' := (show Inv d L fX fI fO q qx O W k0_t1_loop.trips acc ⊢ iprop(⌜acc = carry 32⌝ ∗ Finish d L fX fI q qx O W) by
    rw [trips_eq]; exact inv_finish d L fX fI fO q qx O W acc) $$ Hi
  icases Hi' with ⟨%e, Hi⟩
  subst e
  iapply Hk $$ Hi

theorem list_halves (q : PosShare TreeShare) :
    (iLoc d ↦{q} fI : sProp 𝕄) = iprop((iLoc d ↦{half q 0} fI) ∗ iLoc d ↦{half q 1} fI) :=
  BI.Entails.antisymm (pointsTo_share (PosShare.mem_left_op_right q)).1 (pointsTo_share (PosShare.mem_left_op_right q)).2

set_option maxHeartbeats 4000000 in
/-- The task: the tile's part of the output at the gathered rows. -/
theorem tile_body (hF : (K (F := F)).Facts) (hin : ∀ x, (fI x).toNat < 524288) (q qx : PosShare TreeShare)
    (O : CellTallies nD τ sig (HIx 1)) (W : Waits sig (HIx 1)) (hO : ∀ g, O g none = 0) :
    (iprop(levAts (K (F := F)).L (K (F := F)).lev ∗ emp
        ∗ ((xLoc d ↦{qx} fX) ∗ (iLoc d ↦{q} fI) ∗ oLoc d ↦[tset (tn L)]{fullShare} fO)
        ∗ scopedBufs (thr d L) ∗ scopedSems0 (thr d L) ∗ owes (thr d L) O W) : sProp 𝕄)
      ⊢ WP (cc0_gather_kernel L xV (Memref.isWhole_whole _) iV (Memref.isWhole_whole _) oV (Memref.isWhole_whole _) aV (Memref.isWhole_whole _) cc0_scoped1
          rV (Memref.isWhole_whole _) cc0_scoped3 cc0_scoped4)
          fun _ => iprop(((xLoc d ↦{qx} fX) ∗ (iLoc d ↦{q} fI) ∗ oLoc d ↦[tset (tn L)]{fullShare} gath fX fI)
            ∗ scopedBufs (thr d L) ∗ scopedSems0 (thr d L)
            ∗ ∃ W', ⌜∀ p ∈ W', p ∈ W ∨ p.2 = none⌝ ∗ owes (thr d L) O W') := by
  simp only [cc0_gather_kernel_eq_skeleton]; unfold cc0_gather_kernel_skel
  simp only [k0_part3_eq_skeleton, k0_part4_eq_skeleton]; unfold k0_part3_skel k0_part4_skel
  rw [(K (F := F)).scopedBufs_V hF d (cV L) (jV L), SparseCore.Cfg.scopedSems0_V (Val := Elt F) d (cV L) (jV L), ownSems0_V, ownBufs_V,
    tile_blocks d L fO]
  iintro ⟨#Hlv, -, ⟨Hx, Hi, Ho⟩, ⟨⟨%fa, Ha⟩, ⟨%fr, Hr⟩, Hbufs⟩, ⟨HA0, HA1, HB0, HB1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Ha' := (cut_two (A := (aSlot 0).view.set) (B := (aSlot 1).view.set) aSlots fa) $$ Ha
  icases Ha' with ⟨Ha0, Ha1⟩
  ihave Hr' := (cut_two (A := (rSlot 0).view.set) (B := (rSlot 1).view.set) rSlots fr) $$ Hr
  icases Hr' with ⟨Hr0, Hr1⟩
  ihave Hi' := (Entails.of_eq (list_halves d fI q)) $$ Hi
  icases Hi' with ⟨Hi0, Hi1⟩
  simp only [wp_bind, pure_bind, base_eq]
  have e1 : k0_off1 = ![0 % 2, 0, 0] := by rw [k0_off1_eq]
  have e2 : k0_off2 L = ![0, 4096 * tn L + 128 * (0 % 32)] := by rw [off2_at L]
  have e3 : k0_off3 = ![0 % 2] := by rw [k0_off3_eq]
  iapply (issueIdx (F := F) d L fI 0 0 (half q 0) e1 e2 e3) $$ [Ha0 HA0 Hi0]
  · unfold idxFree
    isplitl [Ha0]; · iexact Ha0
    isplitl [HA0]; · iexact HA0
    iexact Hi0
  iintro Hfly
  iapply (pure_step d L)
  iapply (loop d L fX fI fO hin q qx O W) $$ [Hfly Ha1 HA1 Hi1 Hr0 Hr1 HB0 HB1 Ho Hx Hg HO]
  · unfold Start
    isplitr; · iexact Hmw
    isplitl [Hfly]; · iexact Hfly
    isplitl [Ha1 HA1 Hi1]
    · unfold idxFree
      isplitl [Ha1]; · iexact Ha1
      isplitl [HA1]; · iexact HA1
      iexact Hi1
    isplitl [Hr1 HB1]
    · unfold outFree
      isplitl [Hr1]; · iexact Hr1
      iexact HB1
    isplitl [Hr0 HB0]
    · unfold outFree
      isplitl [Hr0]; · iexact Hr0
      iexact HB0
    isplitl [Ho]; · iexact Ho
    isplitl [Hx]; · iexact Hx
    isplitl [Hg]; · iexact Hg
    unfold owing
    iexists W
    isplitr
    swap; · iexact HO
    ipureintro; exact fun p hp => .inl hp
  unfold Finish
  iintro ⟨-, HI0, HI1, Hlast, Hof, Hdone, Hx, Hg, HO⟩
  ihave HO := (show owing (F := F) d L O W ⊢ iprop(∃ W', ⌜∀ p ∈ W', p ∈ W ∨ p.2 = none⌝ ∗ owes (thr d L) O W') from .rfl) $$ HO
  icases HO with ⟨%W', %hW, HO⟩
  unfold carry
  dsimp only
  iapply (check_step d L (chk5_ok L))
  iapply (check_step d L chk4_ok)
  iapply (pure_step d L)
  dsimp only
  have e4 : k0_off20 (r9 32) = ![1 % 2] := by rw [off20_at]
  iapply (waitOut (F := F) (O := O) (W := W') d L fX fI 1 31 e4) $$ [Hlast HO]
  · isplitl [Hlast]; · iexact Hlast
    isplitl [HO]; · iexact HO
    iapply (Transfers.MayWaits.elim (SemLoc.dma (semB 1))) $$ Hmw
  iintro ⟨Hof1, Hblk, HO⟩
  iapply (pure_step d L)
  unfold idxFree outFree
  icases HI0 with ⟨Ha0, HA0, Hi0⟩
  icases HI1 with ⟨Ha1, HA1, Hi1⟩
  icases Hof with ⟨Hr0, HB0⟩
  icases Hof1 with ⟨Hr1, HB1⟩
  isplitl [Hx Hi0 Hi1 Hdone Hblk]
  · isplitl [Hx]; · iexact Hx
    isplitl [Hi0 Hi1]
    · iapply (Entails.of_eq (list_halves d fI q).symm)
      isplitl [Hi0]; · iexact Hi0
      iexact Hi1
    iapply (Entails.of_eq ((Ring.bigSep_rangeSet_last (NB := 32) (lo := 0) (hi := 32) (Φ := fun b => (blkAt d L (gath fX fI) b.val : sProp 𝕄)) (by decide) (by decide)).symm.trans
      (tile_blocks d L (gath fX fI)).symm))
    isplitl [Hblk]; · iapply (show (blkDone d L fX fI 31 : sProp 𝕄) ⊢ blkAt d L (gath fX fI) 31 from .rfl) $$ Hblk
    iapply (show (bigSep (Ring.rangeSet 32 0 31) fun b => blkDone d L fX fI b.val : sProp 𝕄) ⊢ bigSep (Ring.rangeSet 32 0 (32 - 1)) fun b => blkAt d L (gath fX fI) b.val from .rfl) $$ Hdone
  isplitl [Ha0 Ha1 Hr0 Hr1 Hbufs]
  · isplitl [Ha0 Ha1]
    · iapply (join_two (A := (aSlot 0).view.set) (B := (aSlot 1).view.set) aSlots)
      isplitl [Ha0]; · iexact Ha0
      iexact Ha1
    isplitl [Hr0 Hr1]
    · iapply (join_two (A := (rSlot 0).view.set) (B := (rSlot 1).view.set) rSlots)
      isplitl [Hr0]; · iexact Hr0
      iexact Hr1
    iexact Hbufs
  isplitl [HA0 HA1 HB0 HB1 Hg Hsems]
  · isplitl [HA0]; · iexact HA0
    isplitl [HA1]; · iexact HA1
    isplitl [HB0]; · iexact HB0
    isplitl [HB1]; · iexact HB1
    isplitl [Hg]; · iexact Hg
    iexact Hsems
  iapply (show (owes (thr d L) O (insert (SemLoc.dma (semB 1), (default : HIx 1)) W') : sProp 𝕄) ⊢ iprop(∃ W', ⌜∀ p ∈ W', p ∈ W ∨ p.2 = none⌝ ∗ owes (thr d L) O W')
    from owing_insert d L O W W' _ hW) $$ HO

end Cert.Proof.KerIdeal
-- ==== Proof.KerIdeal.Deal.lean ====
/- What the gather's call is dealt and hands back: every SparseCore a share of the table and of the index list with its
   half of the output, every tile a sixteenth of that; and the tiles' obligation from the task proved in `Tile`. -/
module

public import proofs.«01_k».proof.Proof.KerIdeal.Tile

@[expose] public section

noncomputable section

namespace Cert.Proof.KerIdeal

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Shares and parts -/

/-- SparseCore `c`'s share of an array both read, and tile `i`'s share of that. -/
abbrev qC (c : Fin 2) : PosShare TreeShare := pieceOf fullShare 2 (by decide) c
abbrev qT (c : Fin 2) (i : Fin 16) : PosShare TreeShare := pieceOf (qC c) 16 (by decide) i

/-- The half of the output SparseCore `c`'s tiles write. -/
def cset (c : ℕ) : Finset S131072x128.Idx := Finset.univ.filter fun j : S131072x128.Idx => (j 0).val / 65536 = c

theorem cset_tiles (c : Fin 2) : cset c.val = (Finset.univ : Finset (Fin 16)).biUnion fun i => tset (i.val + 16 * c.val) := by
  ext j
  simp only [cset, tset, Finset.mem_filter, Finset.mem_univ, true_and, Finset.mem_biUnion]
  constructor
  · intro h
    exact ⟨⟨(j 0).val / 4096 - 16 * c.val, by omega⟩, by show _ = _ - _ + _; omega⟩
  · rintro ⟨i, h⟩; have := i.isLt; omega

theorem tset_disjoint {a b : ℕ} (h : a ≠ b) : Disjoint (tset a) (tset b) := by
  rw [Finset.disjoint_left]; intro j ha hb
  simp only [tset, Finset.mem_filter, Finset.mem_univ, true_and] at ha hb
  exact h (ha.symm.trans hb)

theorem univ_cores : (Finset.univ : Finset S131072x128.Idx) = (Finset.univ : Finset (Fin 2)).biUnion fun c => cset c.val := by
  ext j
  simp only [cset, Finset.mem_filter, Finset.mem_univ, true_and, Finset.mem_biUnion, true_iff]
  have : (j 0).val < 131072 := (j 0).isLt
  exact ⟨⟨(j 0).val / 65536, by omega⟩, rfl⟩

theorem cset_disjoint {a b : ℕ} (h : a ≠ b) : Disjoint (cset a) (cset b) := by
  rw [Finset.disjoint_left]; intro j ha hb
  simp only [cset, Finset.mem_filter, Finset.mem_univ, true_and] at ha hb
  exact h (ha.symm.trans hb)

variable (d : Dev nD) (f : Buf (Elt F) (oLoc d))

theorem out_tiles (c : Fin 2) :
    (oLoc d ↦[cset c.val]{fullShare} f : sProp 𝕄) = bigSep Finset.univ fun i : Fin 16 => oLoc d ↦[tset (i.val + 16 * c.val)]{fullShare} f := by
  rw [← pointsTo_biUnion Finset.univ (ℓ := oLoc d) (fun i : Fin 16 => tset (i.val + 16 * c.val))
    (fun i _ j _ h => tset_disjoint fun e => h (Fin.ext (by omega)))]
  exact congrArg (fun s => (oLoc d ↦[s]{fullShare} f : sProp 𝕄)) (cset_tiles c)

theorem out_cores :
    (oLoc d ↦{fullShare} f : sProp 𝕄) = bigSep Finset.univ fun c : Fin 2 => oLoc d ↦[cset c.val]{fullShare} f := by
  rw [← pointsTo_biUnion Finset.univ (ℓ := oLoc d) (fun c : Fin 2 => cset c.val)
    (fun i _ j _ h => cset_disjoint fun e => h (Fin.ext e))]
  exact congrArg (fun s => (oLoc d ↦[s]{fullShare} f : sProp 𝕄)) univ_cores

set_option maxRecDepth 16384 in
/-- An array every tile reads, cut into shares. -/
theorem x_shares (g : Buf (Elt F) (xLoc d)) {o : ℕ} (ho : 0 < o) (q : PosShare TreeShare) :
    (xLoc d ↦{q} g : sProp 𝕄) = bigSep Finset.univ fun j : Fin o => xLoc d ↦{pieceOf q o ho j} g :=
  pointsTo_piecesOf Finset.univ g ho q
set_option maxRecDepth 16384 in
theorem i_shares (g : Buf (Elt F) (iLoc d)) {o : ℕ} (ho : 0 < o) (q : PosShare TreeShare) :
    (iLoc d ↦{q} g : sProp 𝕄) = bigSep Finset.univ fun j : Fin o => iLoc d ↦{pieceOf q o ho j} g :=
  pointsTo_piecesOf Finset.univ g ho q
set_option maxRecDepth 16384 in
theorem o_tiles (g : S131072x128.Idx → F .f32) (c : Fin 2) :
    (oLoc d ↦[cset c.val]{fullShare} g : sProp 𝕄) = bigSep Finset.univ fun i : Fin 16 => oLoc d ↦[tset (i.val + 16 * c.val)]{fullShare} g :=
  out_tiles d g c
set_option maxRecDepth 16384 in
theorem o_cores (g : S131072x128.Idx → F .f32) :
    (oLoc d ↦{fullShare} g : sProp 𝕄) = bigSep Finset.univ fun c : Fin 2 => oLoc d ↦[cset c.val]{fullShare} g :=
  out_cores d g

/-! ## The payloads -/

section Pay

variable (fX : Dev nD → S524288x128.Idx → F .f32) (fI : Dev nD → S1x131072.Idx → BitVec 32) (fO : Dev nD → S131072x128.Idx → F .f32)

/-- What SparseCore `c` holds of the call, the output at `g`; what tile `i` of it holds. -/
abbrev coreAt (g : Dev nD → S131072x128.Idx → F .f32) (d : Dev nD) (c : Fin 2) : sProp 𝕄 :=
  iprop((xLoc d ↦{qC c} fX d) ∗ (iLoc d ↦{qC c} fI d) ∗ oLoc d ↦[cset c.val]{fullShare} g d)
abbrev tileAt (g : Dev nD → S131072x128.Idx → F .f32) (d : Dev nD) (c : Fin 2) (i : Fin 16) : sProp 𝕄 :=
  iprop((xLoc d ↦{qT c i} fX d) ∗ (iLoc d ↦{qT c i} fI d) ∗ oLoc d ↦[tset (i.val + 16 * c.val)]{fullShare} g d)

/-- The output after the call. -/
abbrev fG (d : Dev nD) : S131072x128.Idx → F .f32 := gath (fX d) (fI d)

def P : (K (F := F)).Pay (nD := nD) (Val := Elt F) (Name := ℕ) (U := UU) where
  st := fun q d c => match q with | 0 => coreAt fX fI fO d (Fin.cast nCore_zero c)
  dn := fun q d c => match q with | 0 => coreAt fX fI (fG fX fI) d (Fin.cast nCore_zero c)
  go := fun q d c i => match q with | 0 => tileAt fX fI fO d (Fin.cast nCore_zero c) (Fin.cast nSub_zero i)
  td := fun q d c i => match q with | 0 => tileAt fX fI (fG fX fI) d (Fin.cast nCore_zero c) (Fin.cast nSub_zero i)
  x := fun _ _ => iprop(emp)

instance P_storable : (P (F := F) fX fI fO).IsStorable where
  st q d c := match q with
    | 0 => (inferInstance : BI.Storable (upEmb : UEmb _ 𝕄) (coreAt fX fI fO d (Fin.cast nCore_zero c)))
  dn q d c := match q with
    | 0 => (inferInstance : BI.Storable (upEmb : UEmb _ 𝕄) (coreAt fX fI (fG fX fI) d (Fin.cast nCore_zero c)))
  go q d c i := match q with
    | 0 => (inferInstance : BI.Storable (upEmb : UEmb _ 𝕄) (tileAt fX fI fO d (Fin.cast nCore_zero c) (Fin.cast nSub_zero i)))
  td q d c i := match q with
    | 0 => (inferInstance : BI.Storable (upEmb : UEmb _ 𝕄) (tileAt fX fI (fG fX fI) d (Fin.cast nCore_zero c) (Fin.cast nSub_zero i)))

/-- A SparseCore's holdings are its tiles'. -/
theorem core_tiles (g : Dev nD → S131072x128.Idx → F .f32) (c : Fin 2) :
    (coreAt fX fI g d c : sProp 𝕄) = bigSep Finset.univ fun i : Fin 16 => tileAt fX fI g d c i := by
  unfold coreAt tileAt
  rw [x_shares d (fX d) (o := 16) (by decide) (qC c), i_shares d (fI d) (o := 16) (by decide) (qC c), o_tiles d (g d) c, bigSep_sep',
    bigSep_sep']

/-- The whole operands are the two SparseCores'. -/
theorem whole_cores (g : Dev nD → S131072x128.Idx → F .f32) :
    (iprop((xLoc d ↦{fullShare} fX d) ∗ (iLoc d ↦{fullShare} fI d) ∗ oLoc d ↦{fullShare} g d) : sProp 𝕄)
      = bigSep Finset.univ fun c : Fin 2 => coreAt fX fI g d c := by
  unfold coreAt
  rw [x_shares d (fX d) (o := 2) (by decide) fullShare, i_shares d (fI d) (o := 2) (by decide) fullShare, o_cores d (g d), bigSep_sep',
    bigSep_sep']

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P (F := F) fX fI fO) 0 := by
  intro d c
  show coreAt fX fI fO d (Fin.cast nCore_zero c) ⊢ |={Set.univ}=> iprop(
      (bigSep Finset.univ fun i : Fin ((K (F := F)).nSub 0) => tileAt fX fI fO d (Fin.cast nCore_zero c) (Fin.cast nSub_zero i))
      ∗ ((bigSep Finset.univ fun i : Fin ((K (F := F)).nSub 0) => tileAt fX fI (fG fX fI) d (Fin.cast nCore_zero c) (Fin.cast nSub_zero i))
          -∗ coreAt fX fI (fG fX fI) d (Fin.cast nCore_zero c)))
  rw [bigSep_tiles (F := F) (fun i => tileAt fX fI fO d (Fin.cast nCore_zero c) i),
    bigSep_tiles (F := F) (fun i => tileAt fX fI (fG fX fI) d (Fin.cast nCore_zero c) i), core_tiles, core_tiles]
  iintro H; imodintro
  isplitl [H]; · iexact H
  iintro H; iexact H

theorem st0_eq : (bigSep Finset.univ fun c : Fin ((K (F := F)).nCore 0) => (P (F := F) fX fI fO).st 0 d c)
    = iprop((xLoc d ↦{fullShare} fX d) ∗ (iLoc d ↦{fullShare} fI d) ∗ oLoc d ↦{fullShare} fO d) :=
  (bigSep_cores (F := F) fun c => coreAt fX fI fO d c).trans (whole_cores d fX fI fO).symm
theorem dn0_eq : (bigSep Finset.univ fun c : Fin ((K (F := F)).nCore 0) => (P (F := F) fX fI fO).dn 0 d c)
    = iprop((xLoc d ↦{fullShare} fX d) ∗ (iLoc d ↦{fullShare} fI d) ∗ oLoc d ↦{fullShare} fG fX fI d) :=
  (bigSep_cores (F := F) fun c => coreAt fX fI (fG fX fI) d c).trans (whole_cores d fX fI (fG fX fI)).symm

/-! ## The tiles' obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          xV (Memref.isWhole_whole _) iV (Memref.isWhole_whole _) oV (Memref.isWhole_whole _)
          aV (Memref.isWhole_whole _) cc0_scoped1 rV (Memref.isWhole_whole _) cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hin : ∀ d x, (fI d x).toNat < 524288) :
    (K (F := F)).TileObl (D (F := F)) 𝒱 (P (F := F) fX fI fO) v₀ 0 := by
  intro d c i O W hO _ _
  simp only [show (P (F := F) fX fI fO).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (fX d) (fI d) (fO d) hF (hin d) (qT (Fin.cast nCore_zero c) (Fin.cast nSub_zero i))
    (qT (Fin.cast nCore_zero c) (Fin.cast nSub_zero i)) O W hO).trans (wp_mono frame _ _ fun _ => obl_post)

end Pay

end Cert.Proof.KerIdeal
-- ==== Proof.KerIdeal.Decode.lean ====
/- The decoder's body at one point of its grid: from its nine operands' blocks it leaves the block of log-probabilities
   and the block of chosen indices, each the program's own function of the operands. -/
module

public import proofs.«01_k».proof.Proof.KerIdeal.Setup
public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Pipeline.Value
public import Idealize.ShloMosaic.Lib.VecWindow

@[expose] public section

noncomputable section

namespace Cert.Proof.KerIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The block of log-probabilities, from the operands' blocks. -/
def logpOf (x0 : Vec F S8192x128 .f32) (x1 : Vec F S128x128 .f32) (x2 : Vec F S1x128 .f32) (x3 : Vec F S128x128 .f32) (x4 : Vec F S1x128 .f32)
    (x5 : Vec F S128x1 .f32) (x6 : Vec F S1x1 .f32) (x7 : Vec F S8x1024 .i32) : Vec F S8x1024 .f32 :=
  k1_pay1 (k1_pay4 x0 x1 x2 x3 x4 x5 x6 x7) (k1_pay5 x0 x1 x2 x3 x4 x5 x6 x7)

/-- The block of chosen indices, from the operands' blocks and the block of uniform noise. -/
def pickOf (x0 : Vec F S8192x128 .f32) (x1 : Vec F S128x128 .f32) (x2 : Vec F S1x128 .f32) (x3 : Vec F S128x128 .f32) (x4 : Vec F S1x128 .f32)
    (x5 : Vec F S128x1 .f32) (x6 : Vec F S1x1 .f32) (x7 : Vec F S8x1024 .i32) (x8 : Vec F S8x1024 .f32) : Vec F S8x1 .i32 :=
  k1_pay2 (k1_pay3 x7) (k1_pay4 x0 x1 x2 x3 x4 x5 x6 x7) (k1_pay5 x0 x1 x2 x3 x4 x5 x6 x7) x8

section Operands

variable {x0 y0 : Vec F S8192x128 .f32} {x1 y1 : Vec F S128x128 .f32} {x2 y2 : Vec F S1x128 .f32} {x3 y3 : Vec F S128x128 .f32}
  {x4 y4 : Vec F S1x128 .f32} {x5 y5 : Vec F S128x1 .f32} {x6 y6 : Vec F S1x1 .f32} {x7 y7 : Vec F S8x1024 .i32} {x8 y8 : Vec F S8x1024 .f32}

theorem logp_of (e0 : y0 = x0) (e1 : y1 = x1) (e2 : y2 = x2) (e3 : y3 = x3) (e4 : y4 = x4) (e5 : y5 = x5) (e6 : y6 = x6) (e7 : y7 = x7) :
    k1_pay1 (k1_pay4 y0 y1 y2 y3 y4 y5 y6 y7) (k1_pay5 y0 y1 y2 y3 y4 y5 y6 y7) = logpOf x0 x1 x2 x3 x4 x5 x6 x7 := by
  subst e0 e1 e2 e3 e4 e5 e6 e7; rfl

theorem pick_of (e0 : y0 = x0) (e1 : y1 = x1) (e2 : y2 = x2) (e3 : y3 = x3) (e4 : y4 = x4) (e5 : y5 = x5) (e6 : y6 = x6) (e7 : y7 = x7)
    (e8 : y8 = x8) :
    k1_pay2 (k1_pay3 y7) (k1_pay4 y0 y1 y2 y3 y4 y5 y6 y7) (k1_pay5 y0 y1 y2 y3 y4 y5 y6 y7) y8 = pickOf x0 x1 x2 x3 x4 x5 x6 x7 x8 := by
  subst e0 e1 e2 e3 e4 e5 e6 e7 e8; rfl

end Operands

/-- A whole load reads what the staging buffer is held at. -/
theorem load_of {S : Shape} {e : EltTy} (M : Memref sig .tc .vmem S e) {x : S.Idx → Elt F e} {off : Fin S.rank → ℕ}
    (inb : ∀ a, off a + S.size a ≤ S.size a) (f : M.view.ty.Contents (Elt F)) (h : M.view.read (Elt F) f = x) :
    M.view.readAt (Elt F) (Rect.unit off S.size inb).toLoadRect f = x :=
  (View.readAt_full M.view f inb).trans h

set_option maxHeartbeats 1600000 in
/-- The body run: the operands' staging buffers come back as they were, the results' hold the two blocks. -/
theorem decode_run (c : Dev nD) (i : grid1.Coords)
    (M0 : Memref sig .tc .vmem S8192x128 .f32) (h0 : M0.IsWhole) (M1 : Memref sig .tc .vmem S128x128 .f32) (h1 : M1.IsWhole)
    (M2 : Memref sig .tc .vmem S1x128 .f32) (h2 : M2.IsWhole) (M3 : Memref sig .tc .vmem S128x128 .f32) (h3 : M3.IsWhole)
    (M4 : Memref sig .tc .vmem S1x128 .f32) (h4 : M4.IsWhole) (M5 : Memref sig .tc .vmem S128x1 .f32) (h5 : M5.IsWhole)
    (M6 : Memref sig .tc .vmem S1x1 .f32) (h6 : M6.IsWhole) (M7 : Memref sig .tc .vmem S8x1024 .i32) (h7 : M7.IsWhole)
    (M8 : Memref sig .tc .vmem S8x1024 .f32) (h8 : M8.IsWhole) (M9 : Memref sig .tc .vmem S8x1024 .f32) (h9 : M9.IsWhole)
    (M10 : Memref sig .tc .vmem S8x1 .i32) (h10 : M10.IsWhole)
    (x0 : Vec F S8192x128 .f32) (x1 : Vec F S128x128 .f32) (x2 : Vec F S1x128 .f32) (x3 : Vec F S128x128 .f32) (x4 : Vec F S1x128 .f32)
    (x5 : Vec F S128x1 .f32) (x6 : Vec F S1x1 .f32) (x7 : Vec F S8x1024 .i32) (x8 x9 : Vec F S8x1024 .f32) (x10 : Vec F S8x1 .i32)
    (Q : PUnit → sProp 𝕄) :
    (iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7 ∗ owns (c : Thread nD τ) M8 fullShare x8
        ∗ owns (c : Thread nD τ) M9 fullShare x9 ∗ owns (c : Thread nD τ) M10 fullShare x10
        ∗ ((owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ owns (c : Thread nD τ) M6 fullShare x6 ∗ owns (c : Thread nD τ) M7 fullShare x7 ∗ owns (c : Thread nD τ) M8 fullShare x8
        ∗ owns (c : Thread nD τ) M9 fullShare (logpOf x0 x1 x2 x3 x4 x5 x6 x7)
        ∗ owns (c : Thread nD τ) M10 fullShare (pickOf x0 x1 x2 x3 x4 x5 x6 x7 x8)) -∗ Q ⟨⟩)) : sProp 𝕄)
      ⊢ wp frame (wpE (defs₀ (F := F)) 𝒱₀ (c : Thread nD τ) none) Set.univ
          (cc1__decode_body i M0 h0 M1 h1 M2 h2 M3 h3 M4 h4 M5 h5 M6 h6 M7 h7 M8 h8 M9 h9 M10 h10) Q := by
  rw [cc1__decode_body_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%f8, %e8, H8⟩, ⟨%f9, -, H9⟩, ⟨%f10, -, H10⟩, Hk⟩
  unfold cc1__decode_body_skel
  rw [k1_part1_eq_skeleton]
  unfold k1_part1_skel
  sl_exec!
  sl_step
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact e6
  isplitl [H7]; · iexists _; isplitr; swap; (· iexact H7); ipureintro; exact e7
  isplitl [H8]; · iexists _; isplitr; swap; (· iexact H8); ipureintro; exact e8
  isplitl [H9]
  · iexists _; isplitr; swap; (· iexact H9); ipureintro
    refine (View.read_writes_full _ _ _ _ _).trans ?_
    exact logp_of (load_of M0 inb_S8192x128_S8192x128_0_0 f0 e0) (load_of M1 inb_S128x128_S128x128_0_0 f1 e1) (load_of M2 inb_S1x128_S1x128_0_0 f2 e2) (load_of M3 inb_S128x128_S128x128_0_0 f3 e3) (load_of M4 inb_S1x128_S1x128_0_0 f4 e4) (load_of M5 inb_S128x1_S128x1_0_0 f5 e5) (load_of M6 inb_S1x1_S1x1_0_0 f6 e6) (load_of M7 inb_S8x1024_S8x1024_0_0 f7 e7)
  · iexists _; isplitr; swap; (· iexact H10); ipureintro
    refine (View.read_writes_full _ _ _ _ _).trans ?_
    exact pick_of (load_of M0 inb_S8192x128_S8192x128_0_0 f0 e0) (load_of M1 inb_S128x128_S128x128_0_0 f1 e1) (load_of M2 inb_S1x128_S1x128_0_0 f2 e2) (load_of M3 inb_S128x128_S128x128_0_0 f3 e3) (load_of M4 inb_S1x128_S1x128_0_0 f4 e4) (load_of M5 inb_S128x1_S128x1_0_0 f5 e5) (load_of M6 inb_S1x1_S1x1_0_0 f6 e6) (load_of M7 inb_S8x1024_S8x1024_0_0 f7 e7) (load_of M8 inb_S8x1024_S8x1024_0_0 f8 e8)

end Cert.Proof.KerIdeal
-- ==== Proof.KerIdeal.Region.lean ====
/- The decoder's pipelined call over the TensorCore's state: entered with every unscoped buffer at a valuation, left with
   the two results' arrays at what the body's blocks make of them and every other buffer as it was. -/
module

public import proofs.«01_k».proof.Proof.KerIdeal.Decode
public import Idealize.ShloMosaic.Lib.Pipeline.RegionsLoop

@[expose] public section

noncomputable section

namespace Cert.Proof.KerIdeal

open Cert.KernelIdeal Cert.KernelIdeal.Gen
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-! ## The proof data, at an entry valuation -/

section Data

variable (V : (c : Dev nD) → (b : Ref sig .tc) → Buf (Elt F) ((c : Thread nD τ).loc b))

/-- Window `w`'s block at point `t`: its array at the entry valuation, read through the block. -/
abbrev winAt (c : Dev nD) (w : Fin 11) (t : Fin cfg1.N) : ((cfg1.win w).xblock (cfg1.grid.coords t)).Idx → Elt F (cfg1.win w).elt :=
  ((cfg1.win w).blk t).view.read (Elt F) (V c (Pipeline.arrRef spec1 w))

/-- What the body leaves of log-probabilities and of chosen indices at point `t`. -/
def logpAt (c : Dev nD) (t : Fin cfg1.N) : Vec F S8x1024 .f32 :=
  logpOf (winAt V c 0 t) (winAt V c 1 t) (winAt V c 2 t) (winAt V c 3 t) (winAt V c 4 t) (winAt V c 5 t) (winAt V c 6 t) (winAt V c 7 t)
def pickAt (c : Dev nD) (t : Fin cfg1.N) : Vec F S8x1 .i32 :=
  pickOf (winAt V c 0 t) (winAt V c 1 t) (winAt V c 2 t) (winAt V c 3 t) (winAt V c 4 t) (winAt V c 5 t) (winAt V c 6 t) (winAt V c 7 t)
    (winAt V c 8 t)

/-- The pairs the core may have recorded waiting on when it enters the region. -/
abbrev below (c : Dev nD) (n : ℕ) : Set (SemLoc sig × HIx 1) := {p | (K (F := F)).lev ((c : Thread nD τ), p.1) p.2 ≤ n}

/-- The scoped buffers the pipeline does not stage. -/
abbrev Φr (c : Dev nD) : sProp 𝕄 := Pipeline.scopedRest (Ix := HIx 1) (Name := ℕ) (U := UU) (Lvl := ℕ) (Val := Elt F) spec1 c

variable (n : ℕ)

/-- The data: the arrays at the valuation; an operand's buffer keeps its block, a result's is left at the body's. -/
def dat (c : Dev nD) : Dat τ (Elt F) (HIx 1) ℕ UU ℕ cfg1 c where
  A w := V c (Pipeline.arrRef spec1 w)
  after w t := match w with
    | ⟨0, _⟩ => winAt V c 0 t
    | ⟨1, _⟩ => winAt V c 1 t
    | ⟨2, _⟩ => winAt V c 2 t
    | ⟨3, _⟩ => winAt V c 3 t
    | ⟨4, _⟩ => winAt V c 4 t
    | ⟨5, _⟩ => winAt V c 5 t
    | ⟨6, _⟩ => winAt V c 6 t
    | ⟨7, _⟩ => winAt V c 7 t
    | ⟨8, _⟩ => winAt V c 8 t
    | ⟨9, _⟩ => logpAt V c t
    | ⟨10, _⟩ => pickAt V c t
  Φ _ := Φr c
  q _ := fullShare
  owed _ := 0
  recorded _ := below (F := F) c n

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V n c

section Before
variable (c : Dev nD) (t : Fin cfg1.N)
theorem before0 (d : (cfg1.win 0).block.Idx → Elt F (cfg1.win 0).elt) : (dat V n c).before 0 t d = winAt V c 0 t :=
  (dat V n c).before_in_eq_fetched 0 rfl (fun _ => rfl) (fun _ _ _ => rfl) (fun _ => rfl) t d
theorem before1 (d : (cfg1.win 1).block.Idx → Elt F (cfg1.win 1).elt) : (dat V n c).before 1 t d = winAt V c 1 t :=
  (dat V n c).before_in_eq_fetched 1 rfl (fun _ => rfl) (fun _ _ _ => rfl) (fun _ => rfl) t d
theorem before2 (d : (cfg1.win 2).block.Idx → Elt F (cfg1.win 2).elt) : (dat V n c).before 2 t d = winAt V c 2 t :=
  (dat V n c).before_in_eq_fetched 2 rfl (fun _ => rfl) (fun _ _ _ => rfl) (fun _ => rfl) t d
theorem before3 (d : (cfg1.win 3).block.Idx → Elt F (cfg1.win 3).elt) : (dat V n c).before 3 t d = winAt V c 3 t :=
  (dat V n c).before_in_eq_fetched 3 rfl (fun _ => rfl) (fun _ _ _ => rfl) (fun _ => rfl) t d
theorem before4 (d : (cfg1.win 4).block.Idx → Elt F (cfg1.win 4).elt) : (dat V n c).before 4 t d = winAt V c 4 t :=
  (dat V n c).before_in_eq_fetched 4 rfl (fun _ => rfl) (fun _ _ _ => rfl) (fun _ => rfl) t d
theorem before5 (d : (cfg1.win 5).block.Idx → Elt F (cfg1.win 5).elt) : (dat V n c).before 5 t d = winAt V c 5 t :=
  (dat V n c).before_in_eq_fetched 5 rfl (fun _ => rfl) (fun _ _ _ => rfl) (fun _ => rfl) t d
theorem before6 (d : (cfg1.win 6).block.Idx → Elt F (cfg1.win 6).elt) : (dat V n c).before 6 t d = winAt V c 6 t :=
  (dat V n c).before_in_eq_fetched 6 rfl (fun _ => rfl) (fun _ _ _ => rfl) (fun _ => rfl) t d
theorem before7 (d : (cfg1.win 7).block.Idx → Elt F (cfg1.win 7).elt) : (dat V n c).before 7 t d = winAt V c 7 t :=
  (dat V n c).before_in_eq_fetched 7 rfl (fun _ => rfl) (fun _ _ _ => rfl) (fun _ => rfl) t d
theorem before8 (d : (cfg1.win 8).block.Idx → Elt F (cfg1.win 8).elt) : (dat V n c).before 8 t d = winAt V c 8 t :=
  (dat V n c).before_in_eq_fetched 8 rfl (fun _ => rfl) (fun _ _ _ => rfl) (fun _ => rfl) t d
end Before

set_option maxRecDepth 16384 in
/-- The body at every point: the operands' buffers hold their blocks, and the run leaves the two results' blocks. -/
theorem body_obligation (c : Dev nD) : BodyObligation (dat V n c) (defs₀ (F := F)) 𝒱₀ none Set.univ := fun t => by
  rw [bigSep_W1, bigSep_W1]
  rw [show defs₀ (F := F) .tc cfg1.body (cfg1.bodyArgs t (cfg1.slots t)) = bodyAt1 t from rfl, show (dat V n c).Φ t.succ = (dat V n c).Φ t.castSucc from rfl,
    show (dat V n c).owesAt none t.succ = (dat V n c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  simp only [before0, before1, before2, before3, before4, before5, before6, before7, before8]
  iapply (decode_run c (grid1.coords t) _ _ _ _ _ _ _ _ _ _ _ _ _ _ _ _ _ _ _ _ _ _
    (winAt V c 0 t) (winAt V c 1 t) (winAt V c 2 t) (winAt V c 3 t) (winAt V c 4 t) (winAt V c 5 t) (winAt V c 6 t) (winAt V c 7 t)
    (winAt V c 8 t) ((dat V n c).before 9 t d9) ((dat V n c).before 10 t d10) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The region over the thread state -/

/-- The results' arrays when the region ends. -/
def logpArr (c : Dev nD) : Buf (Elt F) ((c : Thread nD τ).loc main_v13_0) := (dat V n c).arrAt 9 cfg1.N
def pickArr (c : Dev nD) : Buf (Elt F) ((c : Thread nD τ).loc main_v13_1) := (dat V n c).arrAt 10 cfg1.N

variable (Vp : (c : Dev nD) → (b : Ref sig .tc) → Buf (Elt F) ((c : Thread nD τ).loc b))

theorem hio : ∀ w : Fin 11, w ≠ 9 → w ≠ 10 → (spec1 w).isOut = false := by decide
theorem har : ∀ w : Fin 11, w ≠ 9 → w ≠ 10 → Pipeline.arrRef spec1 w ≠ main_v13_0 ∧ Pipeline.arrRef spec1 w ≠ main_v13_1 := by decide

set_option backward.isDefEq.respectTransparency.types false in
/-- The region: from every unscoped buffer at `V` to every one at `Vp`, which has the results at their arrays and agrees
    with `V` elsewhere. -/
def reg (R : Dev nD → sProp 𝕄) (h9 : ∀ c, Vp c main_v13_0 = logpArr V n c) (h10 : ∀ c, Vp c main_v13_1 = pickArr V n c)
    (hne : ∀ c (b : Ref sig .tc), b ≠ main_v13_0 → b ≠ main_v13_1 → Vp c b = V c b) :
    Pipeline.RegionSeg (pcfgs (F := F)) adm (pdats V n adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V n c).loose
  hwaits := Pipeline.hwaits_of_owed_zero _ _ _ _ (K (F := F)).L (K (F := F)).lev 0 fun _ _ => rfl
  pre c := iprop(unscopedBufs c (V c) ∗ R c ∗ ∃ W, ⌜(K (F := F)).WBelow (c : Thread nD τ) W n⌝ ∗ owes (c : Thread nD τ) (0 : CellTallies nD τ sig (HIx 1)) W)
  post c := iprop(unscopedBufs c (Vp c) ∗ R c ∗ ∃ W, ⌜(K (F := F)).WBelow (c : Thread nD τ) W n⌝ ∗ owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V n adm) launch1.win launch1.arr_whole c
      ((pdats V n adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V n adm 0 c).Φ 0 = Φr c from rfl]
    iintro ⟨-, -, Hr⟩; iexact Hr
  hout c := by
    rw [Pipeline.ownSems0_none, show (pdats V n adm 0 c).Φ (Fin.last _) = Φr c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V n adm) ((pdats V n adm 0 c).share_full fun _ => rfl) (V c) (Vp c) ((pdats V n adm 0 c).arrAt · cfg1.N)
      (fun w => by
        by_cases e9 : w = 9
        · subst e9; exact (h9 c).symm
        by_cases e10 : w = 10
        · subst e10; exact (h10 c).symm
        have hin : (spec1 w).isOut = false := hio w e9 e10
        have hr := har w e9 e10
        exact ((pdats V n adm 0 c).arrAt_in w hin _).trans (hne c _ hr.1 hr.2).symm)
      (fun b hb => hne c b (fun h => hb (h ▸ Finset.mem_image.mpr ⟨9, Finset.mem_univ _, rfl⟩))
        (fun h => hb (h ▸ Finset.mem_image.mpr ⟨10, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | ⟨w, s, h⟩
      · exact h
      · rw [h]; exact Nat.zero_le _
    iexact HO

end Data

end Cert.Proof.KerIdeal
-- ==== Proof.KerIdeal.Main.lean ====
/- @main on a TensorCore: the host operations before the gather, the gather's call, the host operations before the
   decoder, the decoder's region, and the last reshape — from the launch's contents to the valuation they compute. -/
module

public import proofs.«01_k».proof.Proof.KerIdeal.Deal
public import proofs.«01_k».proof.Proof.KerIdeal.Region

@[expose] public section

noncomputable section

namespace Cert.Proof.KerIdeal

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after launchContents seq wp_seq)

variable {F : FTy → Type} [FloatOps F]

local notation "𝕄" => MT nD τ sig (HIx 1) (Elt F) ℕ UU ℕ

abbrev adm : (p : Fin 1) → (pcfgs (F := F) p).Adm := fun p => (cfgs p).toPCfg_adm

/-! ## The three stretches of host operations -/

def ops₁ : List (HloOp τ sig (Elt F)) := [
  StableHlo.reshape main_arg0 main_v0 (rfl : (.f32 : EltTy) = .f32) shapeCasts_S128x4096x128_S524288x128,
  StableHlo.nullary main_v1 (iotaInDim S128 32 0),
  StableHlo.nullary main_c (constantI S_ 32 4096#32),
  StableHlo.unary main_c main_v2 (broadcastInDim S128 ![] bcast_S_S128 : (⟨S_, .i32⟩ : BufTy).Contents (Elt F) → (⟨S128, .i32⟩ : BufTy).Contents (Elt F)),
  StableHlo.binary main_v1 main_v2 main_v3 (muli : (⟨S128, .i32⟩ : BufTy).Contents (Elt F) → (⟨S128, .i32⟩ : BufTy).Contents (Elt F) → (⟨S128, .i32⟩ : BufTy).Contents (Elt F)),
  StableHlo.unary main_v3 main_v4 (broadcastInDim S128x1 ![0] bcast_S128_S128x1_0 : (⟨S128, .i32⟩ : BufTy).Contents (Elt F) → (⟨S128x1, .i32⟩ : BufTy).Contents (Elt F)),
  StableHlo.unary main_v4 main_v5 (broadcastInDim S128x1024 ![0, 1] bcast_S128x1_S128x1024_0_1 : (⟨S128x1, .i32⟩ : BufTy).Contents (Elt F) → (⟨S128x1024, .i32⟩ : BufTy).Contents (Elt F)),
  StableHlo.binary main_arg8 main_v5 main_v6 (addi : (⟨S128x1024, .i32⟩ : BufTy).Contents (Elt F) → (⟨S128x1024, .i32⟩ : BufTy).Contents (Elt F) → (⟨S128x1024, .i32⟩ : BufTy).Contents (Elt F)),
  StableHlo.reshape main_v6 main_v7 (rfl : (.i32 : EltTy) = .i32) shapeCasts_S128x1024_S1x131072]

def ops₂ : List (HloOp τ sig (Elt F)) := [
  StableHlo.reshape main_arg3 main_v9 (rfl : (.f32 : EltTy) = .f32) shapeCasts_S128_S1x128,
  StableHlo.reshape main_arg5 main_v10 (rfl : (.f32 : EltTy) = .f32) shapeCasts_S128_S1x128,
  StableHlo.reshape main_arg7 main_v11 (rfl : (.f32 : EltTy) = .f32) shapeCasts_S1_S1x1,
  StableHlo.unary main_arg9 main_v12 ((extui 32 · natLt_1_32) : (⟨S128x1024, .i1⟩ : BufTy).Contents (Elt F) → (⟨S128x1024, .i32⟩ : BufTy).Contents (Elt F))]

def ops₃ : List (HloOp τ sig (Elt F)) := [
  StableHlo.reshape main_v13_1 main_v14 (rfl : (.i32 : EltTy) = .i32) shapeCasts_S128x1_S128]

/-- The program is those stretches around its two calls. -/
theorem main_eq (d : Dev nD) :
    main (F := F) d = seq ops₁ >>= fun _ => (K (F := F)).run d 0 >>= fun _ => seq ops₂ >>= fun _ =>
      SparseCore.liftProg (Prog.lift (.customCall (Pipeline.entry (0 : Fin 1)) ())) >>= fun _ => seq ops₃ >>= fun _ => pure ⟨⟩ := rfl

/-! ## The buffers the program's state holds -/

/-- The TensorCore's unscoped references. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W (Proc.devRef .tc b)) : sProp 𝕄) = held (c : Thread nD τ) ucRefs W := by
  unfold unscopedBufs held ucRefs StableHlo.tcRefs
  rw [Finset.filter_map, bigSep_map]
  rfl

omit [FloatOps F] in
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem ops₁_sub : ∀ op ∈ ops₁ (F := F), op.bufs ⊆ ucRefs := by
  intro op h; refine sub_ucRefs op ?_; unfold ops₁ at h
  fin_cases h <;> simp
theorem ops₂_sub : ∀ op ∈ ops₂ (F := F), op.bufs ⊆ ucRefs := by
  intro op h; refine sub_ucRefs op ?_; unfold ops₂ at h
  fin_cases h <;> simp
theorem ops₃_sub : ∀ op ∈ ops₃ (F := F), op.bufs ⊆ ucRefs := by
  intro op h; refine sub_ucRefs op ?_; unfold ops₃ at h
  fin_cases h; simp
theorem ops₁_fresh : ∀ op ∈ ops₁ (F := F), op.fresh = ∅ := by intro op h; unfold ops₁ at h; fin_cases h <;> rfl
theorem ops₂_fresh : ∀ op ∈ ops₂ (F := F), op.fresh = ∅ := by intro op h; unfold ops₂ at h; fin_cases h <;> rfl
theorem ops₃_fresh : ∀ op ∈ ops₃ (F := F), op.fresh = ∅ := by intro op h; unfold ops₃ at h; fin_cases h; rfl

/-! ## The valuations -/

variable (m : (ℓ : Loc nD τ sig) → Buf (Elt F) ℓ) (ρ : Dev nD → PrngReg)

/-- Before the gather. -/
def W₁ (d : Dev nD) : Valuation τ sig (Elt F) := after ops₁ (launchContents m d)
abbrev fX (d : Dev nD) : S524288x128.Idx → F .f32 := W₁ m d (Proc.devRef .tc main_v0)
abbrev fI (d : Dev nD) : S1x131072.Idx → BitVec 32 := W₁ m d (Proc.devRef .tc main_v7)
abbrev fO (d : Dev nD) : S131072x128.Idx → F .f32 := W₁ m d (Proc.devRef .tc main_v8)
/-- After it. -/
def W₂ (d : Dev nD) : Valuation τ sig (Elt F) := Function.update (W₁ m d) (Proc.devRef .tc main_v8) (gath (fX m d) (fI m d))
/-- Before the decoder. -/
def W₃ (d : Dev nD) : Valuation τ sig (Elt F) := after ops₂ (W₂ m d)
/-- A valuation at the TensorCore's references. -/
abbrev atTc (W : Dev nD → Valuation τ sig (Elt F)) (c : Dev nD) (b : Ref sig .tc) : Buf (Elt F) ((c : Thread nD τ).loc b) := W c (Proc.devRef .tc b)
/-- The levels at or below which the core may have waited by then. -/
abbrev nW : ℕ := 8
/-- After it. -/
def W₄ (d : Dev nD) : Valuation τ sig (Elt F) :=
  Function.update (Function.update (W₃ m d) (Proc.devRef .tc main_v13_0) (logpArr (atTc (W₃ m)) nW d))
    (Proc.devRef .tc main_v13_1) (pickArr (atTc (W₃ m)) nW d)
/-- At the end. -/
def W₅ (d : Dev nD) : Valuation τ sig (Elt F) := after ops₃ (W₄ m d)

end Cert.Proof.KerIdeal
-- ==== Proof.KerIdeal.Run.lean ====
/- The program's run: @main's proof over the two calls, the launch, and the final memory — every unscoped buffer at the
   valuation @main computes, every semaphore at zero. -/
module

public import proofs.«01_k».proof.Proof.KerIdeal.Main

@[expose] public section

noncomputable section

namespace Cert.Proof.KerIdeal

open Cert.KernelIdeal Cert.KernelIdeal.Gen
open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after launchContents seq wp_seq)

variable {F : FTy → Type} [FloatOps F]

local notation "𝕄" => MT nD τ sig (HIx 1) (Elt F) ℕ UU ℕ

variable (m : (ℓ : Loc nD τ sig) → Buf (Elt F) ℓ) (ρ : Dev nD → PrngReg)

/-- The payloads at what @main hands the gather. -/
abbrev PM : (K (F := F)).Pay (nD := nD) (Val := Elt F) (Name := ℕ) (U := UU) := P (fX m) (fI m) (fO m)

/-! ## The gather's three buffers out of the state -/

def three : Finset (DevRef τ sig) := {Proc.devRef .tc main_v0, Proc.devRef .tc main_v7, Proc.devRef .tc main_v8}

theorem three_sub : three ⊆ ucRefs := by
  intro b hb
  simp only [three, Finset.mem_insert, Finset.mem_singleton] at hb
  rcases hb with rfl | rfl | rfl <;> exact Finset.mem_filter.mpr ⟨StableHlo.devRef_mem_tcRefs _, by decide⟩

omit [FloatOps F] in
theorem held_three (d : Dev nD) (W : Valuation τ sig (Elt F)) :
    (held (d : Thread nD τ) three W : sProp 𝕄)
      = iprop((xLoc d ↦{fullShare} W (Proc.devRef .tc main_v0)) ∗ (iLoc d ↦{fullShare} W (Proc.devRef .tc main_v7))
          ∗ oLoc d ↦{fullShare} W (Proc.devRef .tc main_v8)) := by
  unfold held three
  rw [SparseCore.bigSep_insert' (by decide), SparseCore.bigSep_insert' (by decide), bigSep_singleton]

theorem held_before (d : Dev nD) :
    (held (d : Thread nD τ) ucRefs (W₁ m d) : sProp 𝕄)
      = iprop(((xLoc d ↦{fullShare} fX m d) ∗ (iLoc d ↦{fullShare} fI m d) ∗ oLoc d ↦{fullShare} fO m d)
          ∗ held (d : Thread nD τ) (ucRefs \ three) (W₁ m d)) := by
  rw [StableHlo.held_sub_split _ three_sub, held_three]

theorem held_after (d : Dev nD) :
    (held (d : Thread nD τ) ucRefs (W₂ m d) : sProp 𝕄)
      = iprop(((xLoc d ↦{fullShare} fX m d) ∗ (iLoc d ↦{fullShare} fI m d) ∗ oLoc d ↦{fullShare} fG (fX m) (fI m) d)
          ∗ held (d : Thread nD τ) (ucRefs \ three) (W₁ m d)) := by
  have h0 : W₂ m d (Proc.devRef .tc main_v0) = fX m d := Function.update_of_ne (by decide) _ _
  have h7 : W₂ m d (Proc.devRef .tc main_v7) = fI m d := Function.update_of_ne (by decide) _ _
  have h8 : W₂ m d (Proc.devRef .tc main_v8) = fG (fX m) (fI m) d := Function.update_self _ _ _
  rw [StableHlo.held_sub_split _ three_sub, held_three, h0, h7, h8]
  rw [StableHlo.held_congr (V := W₂ m d) (V' := W₁ m d) (d : Thread nD τ) (S := ucRefs \ three)]
  intro b hb
  refine Function.update_of_ne (fun e => (Finset.mem_sdiff.mp hb).2 ?_) _ _
  rw [e]; exact Finset.mem_insert_of_mem (Finset.mem_insert_of_mem (Finset.mem_singleton_self _))

/-! ## The TensorCore's own bookkeeping -/

/-- What it holds of the handshakes once its one call is done, its obligations aside. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last (N := 1) q)) 1)))

theorem tcSt_one (d : Dev nD) :
    ((K (F := F)).tcSt EH d 1 : sProp 𝕄)
      = iprop((∃ W, ⌜(K (F := F)).WBelow (d : Thread nD τ) W nW⌝ ∗ owes (d : Thread nD τ) (0 : CellTallies nD τ sig (HIx 1)) W) ∗ tcRest d) := by
  unfold SparseCore.Cfg.tcSt tcRest
  rw [(K (F := F)).Otc_end d (le_refl 1)]
  rfl

set_option backward.isDefEq.respectTransparency.types false in
/-- The decoder's region at what @main computed. -/
def regM (R : Dev nD → sProp 𝕄) : Pipeline.RegionSeg (pcfgs (F := F)) adm (pdats (atTc (W₃ m)) nW adm) none defs₀ 𝒱₀ (K (F := F)).L (K (F := F)).lev 0 :=
  reg (atTc (W₃ m)) nW adm (atTc (W₄ m)) R
    (fun c => (Function.update_of_ne (by decide) _ _).trans (Function.update_self _ _ _))
    (fun c => Function.update_self _ _ _)
    (fun c b h9 h10 => (Function.update_of_ne (StableHlo.devRef_ne_of_ne h10) _ _).trans (Function.update_of_ne (StableHlo.devRef_ne_of_ne h9) _ _))

/-- The region's ghost state, dealt at the launch. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

abbrev FIN (d : Dev nD) : sProp 𝕄 := held (d : Thread nD τ) ucRefs (W₅ m d)

set_option maxRecDepth 16384 in
set_option backward.isDefEq.respectTransparency.types false in
/-- @main on device `d`'s TensorCore. -/
theorem hmain (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (fun b => m ((SparseCore.T d).loc b)) = fun b : Ref sig .tc => launchContents m d (Proc.devRef .tc b) from rfl,
    unscopedBufs_held]
  iintro ⟨#Hctx, Hst, ⟨Hb, Hh, Hts, -⟩, Hcg, Htk⟩
  iapply (wp_seq 𝒱 none Set.univ d ucRefs _ ops₁ ops₁_sub ops₁_fresh (launchContents m d)) $$ [Hb Hh]
  · isplitl [Hb]; · iexact Hb
    iexact Hh
  iintro ⟨Hb, Hh⟩
  ihave Hh' := (show held (d : Thread nD τ) ucRefs (after ops₁ (launchContents m d)) ⊢ _ from Entails.of_eq (held_before m d)) $$ Hh
  icases Hh' with ⟨Hop, Hrest⟩
  rw [wp_bind]
  iapply ((K (F := F)).wp_run (D (F := F)) 𝒱 (EH := EH) (P := PM m) κ d 0) $$ [Hst Hop Hrest Hb Hts Hcg Htk]
  isplitr; · iexact Hctx
  isplitl [Hst]; · iexact Hst
  isplitl [Hop]
  · iapply (Entails.of_eq (st0_eq d (fX m) (fI m) (fO m)).symm) $$ Hop
  iintro ⟨Hst, Hdn⟩
  ihave Hop := (Entails.of_eq (dn0_eq d (fX m) (fI m) (fO m))) $$ Hdn
  ihave Hh := (Entails.of_eq (held_after m d).symm) $$ [Hop Hrest]
  · isplitl [Hop] <;> iassumption
  iapply (wp_seq 𝒱 none Set.univ d ucRefs _ ops₂ ops₂_sub ops₂_fresh (W₂ m d)) $$ [Hb Hh]
  · isplitl [Hb]; · iexact Hb
    iexact Hh
  iintro ⟨Hb, Hh⟩
  rw [wp_bind]
  iapply ((K (F := F)).wp_liftProg (D (F := F)) 𝒱 (SparseCore.T d) Set.univ none _ _)
  ihave Hst' := (show (K (F := F)).tcSt EH d ((0 : Fin 1).val + 1) ⊢ _ from Entails.of_eq (tcSt_one d)) $$ Hst
  icases Hst' with ⟨HO, Htc⟩
  ihave #Hlv := (SparseCore.Cfg.ctx_levAts κ) $$ Hctx
  iapply (Pipeline.RegionSeg.wp (pcfgs (F := F)) adm (pdats (atTc (W₃ m)) nW adm) none cellOf_inj (EP (F := F)) defs₀ 𝒱₀ (K (F := F)).L (K (F := F)).lev
    (regM m fun d => iprop(tcRest d ∗ (K (F := F)).tcSems0 d)) d none (fun _ h => nomatch h))
  isplitr [Hb Hh HO Htc Hts Hcg Htk]
  · iintro ⟨Hb, Hpost⟩
    rw [wp_ret]; imodintro
    ihave Hpost' := (show (regM m fun d => iprop(tcRest d ∗ (K (F := F)).tcSems0 d)).post d
      ⊢ iprop(unscopedBufs d (atTc (W₄ m) d) ∗ (tcRest d ∗ (K (F := F)).tcSems0 d)
          ∗ ∃ W, ⌜(K (F := F)).WBelow (d : Thread nD τ) W nW⌝ ∗ owes (d : Thread nD τ) (0 : CellTallies nD τ sig (HIx 1)) W) from .rfl) $$ Hpost
    icases Hpost' with ⟨Hub, ⟨Htc, Hts⟩, HO⟩
    ihave Hh := (show unscopedBufs d (atTc (W₄ m) d) ⊢ _ from Entails.of_eq (unscopedBufs_held d (W₄ m d))) $$ Hub
    iapply (wp_seq 𝒱 none Set.univ d ucRefs _ ops₃ ops₃_sub ops₃_fresh (W₄ m d)) $$ [Hb Hh]
    · isplitl [Hb]; · iexact Hb
      iexact Hh
    iintro ⟨Hb, Hh⟩
    rw [wp_pure]; imodintro
    isplitl [HO Htc]
    · iapply (show _ ⊢ (K (F := F)).tcSt EH d 1 from Entails.of_eq (tcSt_one d).symm)
      isplitl [HO] <;> iassumption
    isplitl [Hh]; · iexact Hh
    isplitl [Hb] <;> iassumption
  isplitl [Hb]; · iexact Hb
  isplitl [Hh HO Htc Hts]
  · iapply (show iprop(unscopedBufs d (atTc (W₃ m) d) ∗ (tcRest d ∗ (K (F := F)).tcSems0 d)
          ∗ ∃ W, ⌜(K (F := F)).WBelow (d : Thread nD τ) W nW⌝ ∗ owes (d : Thread nD τ) (0 : CellTallies nD τ sig (HIx 1)) W)
      ⊢ (regM m fun d => iprop(tcRest d ∗ (K (F := F)).tcSems0 d)).pre d from .rfl)
    isplitl [Hh]
    · iapply (show _ ⊢ unscopedBufs d (atTc (W₃ m) d) from Entails.of_eq (unscopedBufs_held d (W₃ m d)).symm)
      iexact Hh
    isplitl [Htc Hts]
    · isplitl [Htc] <;> iassumption
    iexact HO
  isplitr; · iexact Hlv
  isplitl [Hcg] <;> iassumption

/-! ## The launch -/

/-- The launch's element: the handshakes' rounds, the region's rounds, no counter. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PM m).x q thr) := by
  unfold u₀
  iintro Hu
  ihave H := (ownU_pair (initOf (K (F := F)).hsCells (K (F := F)).hsToks)
    (initOf (Pipeline.cells (Pipeline.pin (pcfgs (F := F)) adm) cellOf_inj) (Pipeline.launchToks (Pipeline.pin (pcfgs (F := F)) adm) cellOf_inj), (1 : Counters))) $$ Hu
  icases H with ⟨HH, HR⟩
  ihave HR' := (own_pair_emb (embR (A := UH) (B := UP × Counters))
    (initOf (Pipeline.cells (Pipeline.pin (pcfgs (F := F)) adm) cellOf_inj) (Pipeline.launchToks (Pipeline.pin (pcfgs (F := F)) adm) cellOf_inj)) (1 : Counters)) $$ HR
  icases HR' with ⟨HP, -⟩
  imod (Pipeline.fund_ghost (Pipeline.pin (pcfgs (F := F)) adm) (EP (F := F)) cellOf_inj) $$ HP with ⟨Hg, Ht⟩
  imodintro
  isplitl [HH]; · iexact HH
  isplitl [Hg Ht]
  · rw [bigSep_sep']
    isplitl [Hg]
    · iapply (show (bigSep Finset.univ fun c : Dev nD => bigSep Finset.univ fun p : Fin 1 => Pipeline.cellsGhost (Pipeline.pin (pcfgs (F := F)) adm) (EP (F := F)) p c)
        ⊢ bigSep Finset.univ fun c : Dev nD => Pipeline.cellsGhost (Pipeline.pin (pcfgs (F := F)) adm) (EP (F := F)) 0 c from
        Entails.of_eq (bigSep_congr fun _ _ => bigSep_univ_of_subsingleton (0 : Fin 1))) $$ Hg
    · iapply (show (bigSep Finset.univ fun c : Dev nD => bigSep Finset.univ fun p : Fin 1 => Pipeline.toksInit (Pipeline.pin (pcfgs (F := F)) adm) (EP (F := F)) p c)
        ⊢ bigSep Finset.univ fun c : Dev nD => Pipeline.toksInit (Pipeline.pin (pcfgs (F := F)) adm) (EP (F := F)) 0 c from
        Entails.of_eq (bigSep_congr fun _ _ => bigSep_univ_of_subsingleton (0 : Fin 1))) $$ Ht
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), bigSep_none]
  iempintro

/-- What the final memory is on device `d`. -/
def fq (d : Dev nD) (s' : Phys nD τ sig (Elt F)) : Prop := ∀ b ∈ ucRefs, s'.mem.mem (d, b) = W₅ m d b

theorem hfin (d : Dev nD) (s' : Phys nD τ sig (Elt F)) : iprop(FIN m d ∗ SI s') ⊢ (⌜fq m d s'⌝ : sProp 𝕄) := by
  unfold FIN held
  iintro ⟨H, HSI⟩
  ihave %h := (SI_pointsTo_bufs_agree (qs := fun _ => fullShare) ucRefs) $$ [HSI H]
  · isplitl [HSI]; · iexact HSI
    iexact H
  ipureintro
  exact h

/-- The run: every unscoped buffer ends at the valuation @main computes, every semaphore at zero. -/
def QC : PUnit × MemSt nD τ sig (Elt F) → Prop := fun r => (∀ d : Dev nD, ∀ b ∈ ucRefs, r.2.mem (d, b) = W₅ m d b) ∧ r.2.sem = fun _ => 0

theorem run_main [∀ e, Nonempty (Elt F e)] (hin : ∀ d x, (fI m d x).toNat < 524288) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (fX m) (fI m) (fO m) facts hin)
    (fun q _ => match q with | 0 => SparseCore.Cfg.VecSplit.of_plain (vecSplit (fX m) (fI m) (fO m)))
    m ρ main G (FIN m) (u₀ (F := F)) (sep_elim_left.trans (hu₀ m)) (hmain m ρ) (fq m) (hfin m) (QC m) (fun _ h hz => ⟨h, hz⟩)

end Cert.Proof.KerIdeal
-- ==== Proof.KerIdeal.Frame.lean ====
/- The claim's frame: the range of the flat row numbers under the precondition, the arguments through the run's
   valuation, and the run read at them. -/
module

public import proofs.«01_k».proof.Proof.KerIdeal.Run
public import proofs.«01_k».proof.Defs
public import proofs.«01_k».proof.Proof.Gen.Pre_next_op_in_range

@[expose] public section

noncomputable section

namespace Cert.Proof.KerIdeal

open Cert.KernelIdeal Cert.KernelIdeal.Gen
open Idealize.ShloMosaic
open Idealize.ShloMosaic.TcCoe
open Idealize.SL Idealize.SL.Sem
open Idealize.ShloMosaic.StableHlo (after launchContents)

variable {F : FTy → Type} [FloatOps F]
variable (m : (ℓ : Loc nD τ sig) → Buf (Elt F) ℓ) (ρ : Dev nD → PrngReg)

/-! ## The flat row numbers -/

/-- The flat row number of a candidate: its batch's first row, plus its number in the batch. -/
abbrev flatOf (idx : S128x1024.Idx → BitVec 32) (j : S128x1024.Idx) : BitVec 32 :=
  IntOp.addi (idx j) (IntOp.muli (BitVec.ofNat 32 (j 0).val) 4096#32)

theorem fI_eq (d : Dev nD) :
    fI m d = shapeCast S1x131072 (flatOf (m (d, Proc.devRef .tc main_arg8))) shapeCasts_S128x1024_S1x131072 := by
  unfold fI W₁ ops₁
  after_results
  rfl

/-- In range, the row number is what it says, without wrapping. -/
theorem flatOf_toNat (idx : S128x1024.Idx → BitVec 32) (j : S128x1024.Idx) (h : (idx j).toNat < 4096) :
    (flatOf idx j).toNat = (j 0).val * 4096 + (idx j).toNat := by
  have hj : (j 0).val < 128 := (j 0).isLt
  simp only [flatOf, IntOp.addi, IntOp.muli, BitVec.toNat_add, BitVec.toNat_mul, BitVec.toNat_ofNat]
  omega

theorem fI_lt (h : ∀ d j, ((m (d, Proc.devRef .tc main_arg8) : S128x1024.Idx → BitVec 32) j).toNat < 4096) (d : Dev nD) (x : S1x131072.Idx) :
    (fI m d x).toNat < 524288 := by
  rw [fI_eq]
  unfold shapeCast
  have hj := ((Shape.reshapeEquiv shapeCasts_S128x1024_S1x131072 x) 0).isLt
  rw [flatOf_toNat _ _ (h d _)]
  have := h d (Shape.reshapeEquiv shapeCasts_S128x1024_S1x131072 x)
  have hj' : ((Shape.reshapeEquiv shapeCasts_S128x1024_S1x131072 x) 0).val < 128 := hj
  omega

/-! ## The arguments -/

/-- The references @main writes. -/
abbrev written : List (Ref sig .tc) :=
  [main_v0, main_v1, main_c, main_v2, main_v3, main_v4, main_v5, main_v6, main_v7, main_v8, main_v9, main_v10, main_v11, main_v12,
    main_v13_0, main_v13_1, main_v14]

theorem W₅_kept (d : Dev nD) (b : Ref sig .tc) (hb : b ∉ written) : W₅ m d (Proc.devRef .tc b) = m (d, Proc.devRef .tc b) := by
  have ne : ∀ r ∈ written, Proc.devRef (τ := τ) .tc b ≠ Proc.devRef .tc r := fun r hr e =>
    hb (Proc.devRef_injective _ e ▸ hr)
  unfold W₅
  rw [StableHlo.after_of_writes_sub (W := [main_v14]) ops₃ _ (StableHlo.forall_writes_sub_of_map rfl)
    (fun h => hb ((by decide : _ ⊆ written) h))]
  unfold W₄
  rw [Function.update_of_ne (ne _ (by decide)), Function.update_of_ne (ne _ (by decide))]
  unfold W₃
  rw [StableHlo.after_of_writes_sub (W := [main_v9, main_v10, main_v11, main_v12]) ops₂ _ (StableHlo.forall_writes_sub_of_map rfl)
    (fun h => hb ((by decide : _ ⊆ written) h))]
  unfold W₂
  rw [Function.update_of_ne (ne _ (by decide))]
  unfold W₁
  rw [StableHlo.after_of_writes_sub (W := [main_v0, main_v1, main_c, main_v2, main_v3, main_v4, main_v5, main_v6, main_v7]) ops₁ _
    (StableHlo.forall_writes_sub_of_map rfl) (fun h => hb ((by decide : _ ⊆ written) h))]

/-- The run at one unscoped reference. -/
theorem QC_at {r : PUnit × MemSt nD τ sig (Elt F)} (h : QC m r) (d : Dev nD) (b : Ref sig .tc) (hb : b.isScoped = false) :
    r.2.mem ((d.tc : Thread nD τ).loc b) = W₅ m d (Proc.devRef .tc b) :=
  h.1 d _ (Finset.mem_filter.mpr ⟨StableHlo.devRef_mem_tcRefs _, fun e => Bool.false_ne_true (hb.symm.trans e)⟩)

/-- … and at one that @main does not write. -/
theorem QC_kept {r : PUnit × MemSt nD τ sig (Elt F)} (h : QC m r) (d : Dev nD) (b : Ref sig .tc) (hb : b.isScoped = false) (hw : b ∉ written) :
    r.2.mem ((d.tc : Thread nD τ).loc b) = m ((d.tc : Thread nD τ).loc b) :=
  (QC_at m h d b hb).trans (W₅_kept m d b hw)

end Cert.Proof.KerIdeal

namespace Cert.Proof.KerIdeal

open Cert.KernelIdeal Cert.KernelIdeal.Gen
open Idealize.ShloMosaic
open Idealize.ShloMosaic.TcCoe
open Idealize.SL Idealize.SL.Sem

/-- The precondition, elementwise all ones, bounds each row number. -/
theorem ok_of_pre (m : (ℓ : Loc nD τ sig) → Buf (Elt Ideal) ℓ) (h : Cert.Pre_KernelIdeal m) (d : Dev nD) (j : S128x1024.Idx) :
    ((m (d, Proc.devRef .tc main_arg8) : S128x1024.Idx → BitVec 32) j).toNat < 4096 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 4096#32) = 1#1 → v.toNat < 4096 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun (h d) j
  simp only [Pre_next_op_in_range.fn, andi, cmpi, broadcastInDim, constantI] at e
  exact key _ e

/-- The arguments hold in one memory what they hold in another. -/
abbrev Kept {F : FTy → Type} (m' m : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

/-- The arguments end as they began. -/
theorem args_kept (m : (ℓ : Loc nD τ sig) → Buf (Elt Ideal) ℓ) {r : PUnit × MemSt nD τ sig (Elt Ideal)} (h : QC m r) (c : Dev nD) :
    Kept r.2.mem m c :=
  ⟨QC_kept m h c main_arg0 rfl (by decide), QC_kept m h c main_arg1 rfl (by decide), QC_kept m h c main_arg2 rfl (by decide),
    QC_kept m h c main_arg3 rfl (by decide), QC_kept m h c main_arg4 rfl (by decide), QC_kept m h c main_arg5 rfl (by decide),
    QC_kept m h c main_arg6 rfl (by decide), QC_kept m h c main_arg7 rfl (by decide), QC_kept m h c main_arg8 rfl (by decide),
    QC_kept m h c main_arg9 rfl (by decide)⟩

/-- `Cert.quiescent_KernelIdeal` (Defs.lean). -/
theorem frame : Cert.quiescent_KernelIdeal := fun m ρ hpre =>
  (θ_run Cert.KernelIdeal.defs _ _).mono (fun _ h => ⟨fun c => args_kept m h c, h.2⟩) (run_main (F := Ideal) m ρ (fI_lt m (ok_of_pre m hpre)))

end Cert.Proof.KerIdeal

end
-- ==== Proof.Ref.Run.lean ====
/- The run of the reference: @main is one straight line of host operations, so from any memory every execution ends with
   each buffer at the fold of the operations' results over the launch's contents. -/
module

public import Idealize.ShloMosaic.Lib.StableHlo.RunHlo
public import Idealize.ShloMosaic.Lib.Quiescent
public import proofs.«01_k».proof.Proof.Gen.ReferenceIdeal
public import proofs.«01_k».proof.Proof.Gen.Pre_next_op_in_range
public import proofs.«01_k».proof.Defs

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The row numbers as a column, and the row of each: out of range, a not-a-number. -/
def opsTake : List (HloOp τ sig (Elt F)) := [
  unary main_arg8 main_v0 (broadcastInDim S128x1024x1 ![0, 1] bcast_S128x1024_S128x1024x1_0_1 : (⟨S128x1024, .i32⟩ : BufTy).Contents (Elt F) → (⟨S128x1024x1, .i32⟩ : BufTy).Contents (Elt F)),
  TRef.nullary main_call0.c (constantI S_ 32 0#32),
  TRef.unary main_call0.c main_call0.v0 (broadcastInDim S128x1024x1 ![] bcast_S_S128x1024x1),
  TRef.binary (.of main_v0) main_call0.v0 main_call0.v1 (cmpi .slt),
  TRef.nullary main_call0.c_0 (constantI S_ 32 4096#32),
  TRef.unary main_call0.c_0 main_call0.v2 (broadcastInDim S128x1024x1 ![] bcast_S_S128x1024x1),
  TRef.binary (.of main_v0) main_call0.v2 main_call0.v3 addi,
  TRef.ternary main_call0.v1 main_call0.v3 (.of main_v0) main_call0.v4 select,
  TRef.nullary main_call0.c_1 (constantI S1 32 4095#32),
  TRef.nullary main_call0.c_2 (constantI S_ 32 0#32),
  TRef.unary main_call0.c_2 main_call0.v5 (broadcastInDim S128x1024x1 ![] bcast_S_S128x1024x1),
  TRef.binary main_call0.v4 main_call0.v5 main_call0.v6 (cmpi .sge),
  TRef.unary main_call0.c_1 main_call0.v7 (broadcastInDim S1x1x1 ![2] bcast_S1_S1x1x1_2),
  TRef.unary main_call0.v7 main_call0.v8 (broadcastInDim S128x1024x1 ![0, 1, 2] bcast_S1x1x1_S128x1024x1_0_1_2),
  TRef.binary main_call0.v4 main_call0.v8 main_call0.v9 (cmpi .sle),
  TRef.binary main_call0.v6 main_call0.v9 main_call0.v10 andi,
  TRef.nullary main_call0.c_3 (constantI S_ 1 1#1),
  TRef.binary main_call0.v10 main_call0.c_3 main_call0.v11 (fun x v => Host.reduce IntOp.andi x v reducesTo_S128x1024x1_S128x1024_d2 h_S_),
  TRef.binary (.of main_arg0) main_call0.v4 main_call0.v12 (fun x i => Host.gather gather_S128x4096x128_S128x1024x1_S128x1024x128_2_1_0_0_1_2_11128 x i),
  TRef.unary main_call0.v11 main_call0.v13 (broadcastInDim S128x1024x128 ![0, 1] bcast_S128x1024_S128x1024x128_0_1),
  TRef.nullary main_call0.cst (constant S_ .f32 0x7FC00000#32),
  TRef.unary main_call0.cst main_call0.v14 (broadcastInDim S128x1024x128 ![] bcast_S_S128x1024x128),
  TRef.ternary main_call0.v13 main_call0.v12 main_call0.v14 main_call0.v15 select]

/-- The actor's three layers. -/
def opsActor : List (HloOp τ sig (Elt F)) := [
  binary main_v1 main_arg2 main_v2 ((fun l r => Host.dotGeneral dot_S128x1024x128_S128x128_S128x1024x128_2_0_01_1_n_n none l r) : (⟨S128x1024x128, .f32⟩ : BufTy).Contents (Elt F) → (⟨S128x128, .f32⟩ : BufTy).Contents (Elt F) → (⟨S128x1024x128, .f32⟩ : BufTy).Contents (Elt F)),
  unary main_arg3 main_v3 (broadcastInDim S1x1x128 ![2] bcast_S128_S1x1x128_2 : (⟨S128, .f32⟩ : BufTy).Contents (Elt F) → (⟨S1x1x128, .f32⟩ : BufTy).Contents (Elt F)),
  unary main_v3 main_v4 (broadcastInDim S128x1024x128 ![0, 1, 2] bcast_S1x1x128_S128x1024x128_0_1_2 : (⟨S1x1x128, .f32⟩ : BufTy).Contents (Elt F) → (⟨S128x1024x128, .f32⟩ : BufTy).Contents (Elt F)),
  binary main_v2 main_v4 main_v5 (addf : (⟨S128x1024x128, .f32⟩ : BufTy).Contents (Elt F) → (⟨S128x1024x128, .f32⟩ : BufTy).Contents (Elt F) → (⟨S128x1024x128, .f32⟩ : BufTy).Contents (Elt F)),
  unary main_v5 main_v6 (Host.tanh : (⟨S128x1024x128, .f32⟩ : BufTy).Contents (Elt F) → (⟨S128x1024x128, .f32⟩ : BufTy).Contents (Elt F)),
  binary main_v6 main_arg4 main_v7 ((fun l r => Host.dotGeneral dot_S128x1024x128_S128x128_S128x1024x128_2_0_01_1_n_n none l r) : (⟨S128x1024x128, .f32⟩ : BufTy).Contents (Elt F) → (⟨S128x128, .f32⟩ : BufTy).Contents (Elt F) → (⟨S128x1024x128, .f32⟩ : BufTy).Contents (Elt F)),
  unary main_arg5 main_v8 (broadcastInDim S1x1x128 ![2] bcast_S128_S1x1x128_2 : (⟨S128, .f32⟩ : BufTy).Contents (Elt F) → (⟨S1x1x128, .f32⟩ : BufTy).Contents (Elt F)),
  unary main_v8 main_v9 (broadcastInDim S128x1024x128 ![0, 1, 2] bcast_S1x1x128_S128x1024x128_0_1_2 : (⟨S1x1x128, .f32⟩ : BufTy).Contents (Elt F) → (⟨S128x1024x128, .f32⟩ : BufTy).Contents (Elt F)),
  binary main_v7 main_v9 main_v10 (addf : (⟨S128x1024x128, .f32⟩ : BufTy).Contents (Elt F) → (⟨S128x1024x128, .f32⟩ : BufTy).Contents (Elt F) → (⟨S128x1024x128, .f32⟩ : BufTy).Contents (Elt F)),
  unary main_v10 main_v11 (Host.tanh : (⟨S128x1024x128, .f32⟩ : BufTy).Contents (Elt F) → (⟨S128x1024x128, .f32⟩ : BufTy).Contents (Elt F)),
  binary main_v11 main_arg6 main_v12 ((fun l r => Host.dotGeneral dot_S128x1024x128_S128x1_S128x1024x1_2_0_01_1_n_n none l r) : (⟨S128x1024x128, .f32⟩ : BufTy).Contents (Elt F) → (⟨S128x1, .f32⟩ : BufTy).Contents (Elt F) → (⟨S128x1024x1, .f32⟩ : BufTy).Contents (Elt F)),
  unary main_arg7 main_v13 (broadcastInDim S1x1x1 ![2] bcast_S1_S1x1x1_2 : (⟨S1, .f32⟩ : BufTy).Contents (Elt F) → (⟨S1x1x1, .f32⟩ : BufTy).Contents (Elt F)),
  unary main_v13 main_v14 (broadcastInDim S128x1024x1 ![0, 1, 2] bcast_S1x1x1_S128x1024x1_0_1_2 : (⟨S1x1x1, .f32⟩ : BufTy).Contents (Elt F) → (⟨S128x1024x1, .f32⟩ : BufTy).Contents (Elt F)),
  binary main_v12 main_v14 main_v15 (addf : (⟨S128x1024x1, .f32⟩ : BufTy).Contents (Elt F) → (⟨S128x1024x1, .f32⟩ : BufTy).Contents (Elt F) → (⟨S128x1024x1, .f32⟩ : BufTy).Contents (Elt F)),
  reshape main_v15 main_v16 (rfl : (.f32 : EltTy) = .f32) shapeCasts_S128x1024x1_S128x1024]

/-- The mask, then the logarithm of the softmax along each row. -/
def opsSoft : List (HloOp τ sig (Elt F)) := [
  nullary main_cst (constant S_ .f32 0xFF800000#32),
  TRef.unary (.of main_cst) main_call1.v0 id,
  TRef.unary main_call1.v0 main_call1.v1 (broadcastInDim S128x1024 ![] bcast_S_S128x1024),
  TRef.ternary (.of main_arg9) (.of main_v16) main_call1.v1 main_call1.v2 select,
  TRef.nullary main_call2.cst (constant S_ .f32 0xFF800000#32),
  TRef.binary (.of main_v17 : TRef sig ⟨S128x1024, .f32⟩) main_call2.cst main_call2.v0 (fun x v => Host.reduce FloatOps.maximumf x v reducesTo_S128x1024_S128_d1 h_S_),
  TRef.nullary main_call2.cst_0 (constant S_ .f32 0xFF800000#32),
  TRef.unary main_call2.cst_0 main_call2.v1 (broadcastInDim S128 ![] bcast_S_S128),
  TRef.binary main_call2.v1 main_call2.v0 main_call2.v2 maximumf,
  TRef.unary main_call2.v2 main_call2.v3 (broadcastInDim S128x1 ![0] bcast_S128_S128x1_0),
  TRef.unary main_call2.v3 main_call2.v4 (broadcastInDim S128x1024 ![0, 1] bcast_S128x1_S128x1024_0_1),
  TRef.binary (.of main_v17) main_call2.v4 main_call2.v5 subf,
  TRef.unary main_call2.v5 main_call2.v6 Host.exp,
  TRef.nullary main_call2.cst_1 (constant S_ .f32 0x00000000#32),
  TRef.binary main_call2.v6 main_call2.cst_1 main_call2.v7 (fun x v => Host.reduceAdd x v reducesTo_S128x1024_S128_d1 h_S_),
  TRef.unary main_call2.v7 main_call2.v8 (broadcastInDim S128x1 ![0] bcast_S128_S128x1_0),
  TRef.unary main_call2.v8 main_call2.v9 Host.log,
  TRef.unary main_call2.v9 main_call2.v10 (broadcastInDim S128x1024 ![0, 1] bcast_S128x1_S128x1024_0_1),
  TRef.binary main_call2.v5 main_call2.v10 main_call2.v11 subf]

/-- The perturbed scores and the place of each row's greatest. -/
def opsPick : List (HloOp τ sig (Elt F)) := [
  unary main_arg1 main_v19 (Host.log : (⟨S128x1024, .f32⟩ : BufTy).Contents (Elt F) → (⟨S128x1024, .f32⟩ : BufTy).Contents (Elt F)),
  unary main_v19 main_v20 (Host.negf : (⟨S128x1024, .f32⟩ : BufTy).Contents (Elt F) → (⟨S128x1024, .f32⟩ : BufTy).Contents (Elt F)),
  unary main_v20 main_v21 (Host.log : (⟨S128x1024, .f32⟩ : BufTy).Contents (Elt F) → (⟨S128x1024, .f32⟩ : BufTy).Contents (Elt F)),
  unary main_v21 main_v22 (Host.negf : (⟨S128x1024, .f32⟩ : BufTy).Contents (Elt F) → (⟨S128x1024, .f32⟩ : BufTy).Contents (Elt F)),
  binary main_v18 main_v22 main_v23 (addf : (⟨S128x1024, .f32⟩ : BufTy).Contents (Elt F) → (⟨S128x1024, .f32⟩ : BufTy).Contents (Elt F) → (⟨S128x1024, .f32⟩ : BufTy).Contents (Elt F)),
  nullary main_cst_0 (constant S_ .f32 0xFF800000#32),
  TRef.unary (.of main_cst_0) main_call3.v0 id,
  TRef.unary main_call3.v0 main_call3.v1 (broadcastInDim S128x1024 ![] bcast_S_S128x1024),
  TRef.ternary (.of main_arg9) (.of main_v23) main_call3.v1 main_call3.v2 select,
  TRef.nullary main_call4.v0 (iotaInDim S128x1024 32 1),
  TRef.nullary main_call4.cst (constant S_ .f32 0xFF800000#32),
  TRef.nullary main_call4.c (constantI S_ 32 0#32),
  TRef.quaternary (.of main_v24) main_call4.v0 main_call4.cst main_call4.c main_call4.v1_0 (fun x y u v j => (Host.argReduce reducer_argmax_f32_i32 x y u v reducesTo_S128x1024_S128_d1 h_S_ j).1),
  TRef.quaternary (.of main_v24) main_call4.v0 main_call4.cst main_call4.c main_call4.v1_1 (fun x y u v j => (Host.argReduce reducer_argmax_f32_i32 x y u v reducesTo_S128x1024_S128_d1 h_S_ j).2)]

/-- @main's operations, in order. -/
def ops : List (HloOp τ sig (Elt F)) := opsTake ++ (opsActor ++ (opsSoft ++ opsPick))

theorem main_eq (c : Dev nD) : main (F := F) c = seq ops := rfl

/-- What @main writes, in order. -/
abbrev writtenTake : List (Ref sig .tc) := [main_v0, main_call0_c, main_call0_v0, main_call0_v1, main_call0_c_0, main_call0_v2, main_call0_v3,
  main_call0_v4, main_call0_c_1, main_call0_c_2, main_call0_v5, main_call0_v6, main_call0_v7, main_call0_v8, main_call0_v9, main_call0_v10,
  main_call0_c_3, main_call0_v11, main_call0_v12, main_call0_v13, main_call0_cst, main_call0_v14, main_v1]
abbrev writtenActor : List (Ref sig .tc) := [main_v2, main_v3, main_v4, main_v5, main_v6, main_v7, main_v8, main_v9, main_v10, main_v11,
  main_v12, main_v13, main_v14, main_v15, main_v16]
abbrev writtenSoft : List (Ref sig .tc) := [main_cst, main_call1_v0, main_call1_v1, main_v17, main_call2_cst, main_call2_v0, main_call2_cst_0,
  main_call2_v1, main_call2_v2, main_call2_v3, main_call2_v4, main_call2_v5, main_call2_v6, main_call2_cst_1, main_call2_v7, main_call2_v8,
  main_call2_v9, main_call2_v10, main_v18]
abbrev writtenPick : List (Ref sig .tc) := [main_v19, main_v20, main_v21, main_v22, main_v23, main_cst_0, main_call3_v0, main_call3_v1, main_v24,
  main_call4_v0, main_call4_cst, main_call4_c, main_call4_v1_0, main_v25]

variable (V : Valuation τ sig (Elt F))

theorem take_kept (r : Ref sig .tc) (h : r ∉ writtenTake) : after opsTake V (Proc.devRef .tc r) = V (Proc.devRef .tc r) :=
  after_of_writes_sub opsTake V (forall_writes_sub_of_map rfl) h
theorem actor_kept (r : Ref sig .tc) (h : r ∉ writtenActor) : after opsActor V (Proc.devRef .tc r) = V (Proc.devRef .tc r) :=
  after_of_writes_sub opsActor V (forall_writes_sub_of_map rfl) h
theorem soft_kept (r : Ref sig .tc) (h : r ∉ writtenSoft) : after opsSoft V (Proc.devRef .tc r) = V (Proc.devRef .tc r) :=
  after_of_writes_sub opsSoft V (forall_writes_sub_of_map rfl) h
theorem pick_kept (r : Ref sig .tc) (h : r ∉ writtenPick) : after opsPick V (Proc.devRef .tc r) = V (Proc.devRef .tc r) :=
  after_of_writes_sub opsPick V (forall_writes_sub_of_map rfl) h

/-- One stretch after another. -/
theorem after_two (l₁ l₂ : List (HloOp τ sig (Elt F))) : after (l₁ ++ l₂) V = after l₂ (after l₁ V) := by
  induction l₁ generalizing V with
  | nil => rfl
  | cons op l ih => rw [List.cons_append, after_cons, after_cons, ih]

/-- The four stretches, one after another. -/
theorem after_ops : after ops V = after opsPick (after opsSoft (after opsActor (after opsTake V))) := by
  unfold ops
  rw [after_two, after_two, after_two]

theorem ops_kept (r : Ref sig .tc) (h₁ : r ∉ writtenTake) (h₂ : r ∉ writtenActor) (h₃ : r ∉ writtenSoft) (h₄ : r ∉ writtenPick) :
    after ops V (Proc.devRef .tc r) = V (Proc.devRef .tc r) := by
  rw [after_ops, pick_kept _ r h₄, soft_kept _ r h₃, actor_kept _ r h₂, take_kept _ r h₁]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  rw [List.forall_iff_forall_mem]
  intro op h
  simp only [ops, List.mem_append] at h
  rcases h with h | h | h | h
  · unfold opsTake at h; fin_cases h <;> simp
  · unfold opsActor at h; fin_cases h <;> simp
  · unfold opsSoft at h; fin_cases h <;> simp
  · unfold opsPick at h; fin_cases h <;> simp

theorem ops_fresh : ∀ op ∈ (ops : List (HloOp τ sig (Elt F))), op.fresh = ∅ := by
  intro op h
  simp only [ops, List.mem_append] at h
  rcases h with h | h | h | h
  · unfold opsTake at h; fin_cases h <;> rfl
  · unfold opsActor at h; fin_cases h <;> rfl
  · unfold opsSoft at h; fin_cases h <;> rfl
  · unfold opsPick at h; fin_cases h <;> rfl

variable (m : (ℓ : Loc nD τ sig) → Buf (Elt F) ℓ) (ρ : Dev nD → PrngReg)

/-- The run. -/
theorem run_main : θ_run defs (onTc (τ := τ) (main (F := F))) ⟨m, fun _ => 0, ρ⟩ fun r =>
    ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-- The arguments hold in one memory what they hold in another. -/
abbrev Kept {F : FTy → Type} (m' m : (ℓ : Loc nD τ sig) → Buf (Elt F) ℓ) (c : Dev nD) : Prop :=
  m' ((c.tc : Thread nD τ).loc main_arg0) = m ((c.tc : Thread nD τ).loc main_arg0)
  ∧ m' ((c.tc : Thread nD τ).loc main_arg1) = m ((c.tc : Thread nD τ).loc main_arg1)
  ∧ m' ((c.tc : Thread nD τ).loc main_arg2) = m ((c.tc : Thread nD τ).loc main_arg2)
  ∧ m' ((c.tc : Thread nD τ).loc main_arg3) = m ((c.tc : Thread nD τ).loc main_arg3)
  ∧ m' ((c.tc : Thread nD τ).loc main_arg4) = m ((c.tc : Thread nD τ).loc main_arg4)
  ∧ m' ((c.tc : Thread nD τ).loc main_arg5) = m ((c.tc : Thread nD τ).loc main_arg5)
  ∧ m' ((c.tc : Thread nD τ).loc main_arg6) = m ((c.tc : Thread nD τ).loc main_arg6)
  ∧ m' ((c.tc : Thread nD τ).loc main_arg7) = m ((c.tc : Thread nD τ).loc main_arg7)
  ∧ m' ((c.tc : Thread nD τ).loc main_arg8) = m ((c.tc : Thread nD τ).loc main_arg8)
  ∧ m' ((c.tc : Thread nD τ).loc main_arg9) = m ((c.tc : Thread nD τ).loc main_arg9)

/-- The arguments end as they began. -/
theorem args_kept {r : PUnit × MemSt nD τ sig (Elt F)}
    (h : ∀ (d : Dev nD) (b : Ref sig .tc), r.2.mem ((d.tc : Thread nD τ).loc b) = after ops (launchContents m d) (Proc.devRef .tc b)) (c : Dev nD) :
    Kept r.2.mem m c :=
  have k (b : Ref sig .tc) (h₁ : b ∉ writtenTake) (h₂ : b ∉ writtenActor) (h₃ : b ∉ writtenSoft) (h₄ : b ∉ writtenPick) :
      r.2.mem ((c.tc : Thread nD τ).loc b) = m ((c.tc : Thread nD τ).loc b) := (h c b).trans (ops_kept _ b h₁ h₂ h₃ h₄)
  ⟨k main_arg0 (by decide) (by decide) (by decide) (by decide), k main_arg1 (by decide) (by decide) (by decide) (by decide),
    k main_arg2 (by decide) (by decide) (by decide) (by decide), k main_arg3 (by decide) (by decide) (by decide) (by decide),
    k main_arg4 (by decide) (by decide) (by decide) (by decide), k main_arg5 (by decide) (by decide) (by decide) (by decide),
    k main_arg6 (by decide) (by decide) (by decide) (by decide), k main_arg7 (by decide) (by decide) (by decide) (by decide),
    k main_arg8 (by decide) (by decide) (by decide) (by decide), k main_arg9 (by decide) (by decide) (by decide) (by decide)⟩

/-- `Cert.quiescent_ReferenceIdeal` (Defs.lean). -/
theorem frame : Cert.quiescent_ReferenceIdeal := fun m ρ _ =>
  (θ_run Cert.ReferenceIdeal.defs _ _).mono (fun r h => ⟨fun c => args_kept m h c, sem_eq_zero_of_no_sems rfl r.2⟩) (run_main m ρ)

end Cert.Proof.Ref

end
-- ==== Proof.Val.Spec.lean ====
/- What one row of the decoder computes, over the extended reals: the scores of a row's candidates, the logarithm of
   their softmax, and the first of the greatest perturbed scores. Both programs are read down to these functions. -/
module

public import Idealize.ShloMosaic.Lib.Pointwise

@[expose] public section

noncomputable section

namespace Cert.Proof.Val

open Idealize.ShloMosaic

/-- One layer of the actor at one unit. -/
def layer (x : Fin 128 → EReal) (W : Fin 128 → Fin 128 → EReal) (b : Fin 128 → EReal) (j : Fin 128) : EReal :=
  Ideal.tanh (∑ k, x k * W k j + b j)

/-- The actor's score of one candidate. -/
def score (x : Fin 128 → EReal) (W₁ : Fin 128 → Fin 128 → EReal) (b₁ : Fin 128 → EReal) (W₂ : Fin 128 → Fin 128 → EReal)
    (b₂ : Fin 128 → EReal) (W₃ : Fin 128 → EReal) (b₃ : EReal) : EReal :=
  ∑ k, layer (layer x W₁ b₁) W₂ b₂ k * W₃ k + b₃

/-- The value an invalid candidate is given. -/
abbrev low : EReal := Ideal.ofBits .f32 4286578688#32

theorem low_eq : low = ⊥ := by simp [Ideal.ofBits, Ideal.ieee]

/-- A row's greatest value. -/
def top (f : Fin 1024 → EReal) : EReal := Finset.univ.fold max low f

/-- The logarithm of a row's softmax. -/
def logp (f : Fin 1024 → EReal) (k : Fin 1024) : EReal := (f k - top f) - Ideal.log (∑ i, Ideal.exp (f i - top f))

/-- A row's perturbed scores: where valid, the log-probability and the noise the uniform draw stands for. -/
def keys (valid : Fin 1024 → BitVec 1) (p u : Fin 1024 → EReal) (k : Fin 1024) : EReal :=
  Scalar.select (valid k) (p k + -Ideal.log (-Ideal.log (u k))) low

/-- `w` is the first place at which `f` is greatest. -/
def IsFirst (f : Fin 1024 → EReal) (w : BitVec 32) : Prop :=
  ∃ k : Fin 1024, w = BitVec.ofNat 32 k.val ∧ (∀ i, f i ≤ f k) ∧ ∀ i, f i = f k → k ≤ i

theorem IsFirst.unique {f : Fin 1024 → EReal} {w w' : BitVec 32} (h : IsFirst f w) (h' : IsFirst f w') : w = w' := by
  obtain ⟨k, rfl, hk, hk'⟩ := h
  obtain ⟨i, rfl, hi, hi'⟩ := h'
  have e : f i = f k := le_antisymm (hk i) (hi k)
  rw [le_antisymm (hk' i e) (hi' k e.symm)]

theorem top_ge (f : Fin 1024 → EReal) (k : Fin 1024) : f k ≤ top f :=
  ((Finset.fold_max_le (top f)).mp le_rfl).2 k (Finset.mem_univ k)

theorem top_attained (f : Fin 1024 → EReal) : ∃ k, f k = top f := by
  obtain ⟨k, -, hk⟩ := Finset.exists_max_image Finset.univ f ⟨0, Finset.mem_univ 0⟩
  refine ⟨k, le_antisymm (top_ge f k) ((Finset.fold_max_le (f k)).mpr ⟨by rw [low_eq]; exact bot_le, fun i _ => hk i (Finset.mem_univ i)⟩)⟩

theorem exists_first (f : Fin 1024 → EReal) : ∃ k : Fin 1024, f k = top f ∧ ∀ i, f i = top f → k ≤ i := by
  classical
  have hne : (Finset.univ.filter fun k => f k = top f).Nonempty := by
    obtain ⟨k, hk⟩ := top_attained f
    exact ⟨k, by simp [hk]⟩
  refine ⟨_, (Finset.mem_filter.mp (Finset.min'_mem _ hne)).2, fun i hi => Finset.min'_le _ _ (by simp [hi])⟩

theorem toInt_place (k : Fin 1024) : (BitVec.ofNat 32 k.val).toInt = k.val := by
  have := k.isLt
  rw [BitVec.toInt_eq_toNat_of_lt] <;> rw [BitVec.toNat_ofNat, Nat.mod_eq_of_lt] <;> omega

theorem le_minsi (c x y : BitVec 32) : c.toInt ≤ (IntOp.minsi x y).toInt ↔ c.toInt ≤ x.toInt ∧ c.toInt ≤ y.toInt := by
  unfold IntOp.minsi
  split <;> rename_i h <;> rw [BitVec.slt_iff_toInt_lt] at h <;> omega

/-- The least place among those that attain the row's greatest value is the first such place. -/
theorem first_of_least (f : Fin 1024 → EReal) :
    IsFirst f (Finset.univ.fold IntOp.minsi 2147483647#32
      (fun x => if f x = Finset.univ.fold max low f then BitVec.ofNat 32 x.val else 1024#32)) := by
  obtain ⟨k, hk, hk'⟩ := exists_first f
  have hall : ∀ c : BitVec 32, c.toInt ≤ _ ↔ _ := fun c =>
    Finset.fold_op_rel_iff_and (r := fun c x : BitVec 32 => c.toInt ≤ x.toInt) (op := IntOp.minsi) (fun {x y z} => le_minsi x y z)
      (s := Finset.univ) (f := fun x : Fin 1024 => if f x = top f then BitVec.ofNat 32 x.val else 1024#32) (b := 2147483647#32) (c := c)
  refine ⟨k, BitVec.eq_of_toInt_eq (le_antisymm ?_ ?_), fun i => hk ▸ top_ge f i, fun i hi => hk' i (hi.trans hk)⟩
  · have := ((hall _).mp le_rfl).2 k (Finset.mem_univ k)
    rwa [if_pos hk] at this
  · refine (hall _).mpr ⟨?_, fun i _ => ?_⟩ <;> rw [toInt_place]
    · have := k.isLt
      rw [show (2147483647#32 : BitVec 32).toInt = 2147483647 from rfl]; omega
    · have := k.isLt
      split
      · rename_i h
        rw [toInt_place]
        exact_mod_cast hk' i h
      · rw [show (1024#32 : BitVec 32).toInt = 1024 from rfl]; omega

end Cert.Proof.Val

end
-- ==== Proof.Val.KerRow.lean ====
/- The decoder's two blocks at an element, over the extended reals: the row functions of the operand blocks' rows. -/
module

public import proofs.«01_k».proof.Proof.Val.Spec
public import proofs.«01_k».proof.Proof.KerIdeal.Decode

@[expose] public section

set_option maxRecDepth 16384

noncomputable section

namespace Cert.Proof.Val

open Cert.KernelIdeal Cert.KernelIdeal.Gen
open Idealize.ShloMosaic
open Cert.Proof.KerIdeal

/-- A mask kept as words, read back: nonzero where the mask is on. -/
theorem mask_back (c : BitVec 1) : IntOp.cmpi .ne (c.setWidth 32) 0#32 = c := by
  revert c; decide

variable (x0 : Vec Ideal S8192x128 .f32) (x1 : Vec Ideal S128x128 .f32) (x2 : Vec Ideal S1x128 .f32) (x3 : Vec Ideal S128x128 .f32)
  (x4 : Vec Ideal S1x128 .f32) (x5 : Vec Ideal S128x1 .f32) (x6 : Vec Ideal S1x1 .f32) (x7 : Vec Ideal S8x1024 .i32) (x8 : Vec Ideal S8x1024 .f32)

/-- The block's masked scores along its row `a`. -/
def blockScores (a : Fin 8) (k : Fin 1024) : EReal :=
  Scalar.select (IntOp.cmpi .ne (x7 (ix2 a k)) 0#32)
    (score (fun c => x0 (ix2 ⟨a.val * 1024 + k.val, by omega⟩ c)) (fun i j => x1 (ix2 i j)) (fun i => x2 (ix2 0 i)) (fun i j => x3 (ix2 i j))
      (fun i => x4 (ix2 0 i)) (fun i => x5 (ix2 i 0)) (x6 (ix2 0 0))) low

theorem pay4_at (a : Fin 8) (k : Fin 1024) :
    k1_pay4 x0 x1 x2 x3 x4 x5 x6 x7 (ix2 a k) = blockScores x0 x1 x2 x3 x4 x5 x6 x7 a k - top (blockScores x0 x1 x2 x3 x4 x5 x6 x7 a) := by
  pointwise [k1_pay4, k1_pay3]
  rfl

theorem logpOf_at (a : Fin 8) (k : Fin 1024) :
    logpOf x0 x1 x2 x3 x4 x5 x6 x7 (ix2 a k) = logp (blockScores x0 x1 x2 x3 x4 x5 x6 x7 a) k := by
  pointwise [logpOf, k1_pay1, k1_pay5]
  simp only [pay4_at]
  rfl

theorem pickOf_first (a : Fin 8) (z : Fin 1) :
    IsFirst (keys (fun k => IntOp.cmpi .ne (x7 (ix2 a k)) 0#32) (logp (blockScores x0 x1 x2 x3 x4 x5 x6 x7 a)) (fun k => x8 (ix2 a k)))
      (pickOf x0 x1 x2 x3 x4 x5 x6 x7 x8 (ix2 a z)) := by
  pointwise [pickOf, k1_pay2, k1_pay3, k1_pay1, k1_pay5]
  simp only [pay4_at, zero_sub]
  exact first_of_least (keys (fun k => IntOp.cmpi .ne (x7 (ix2 a k)) 0#32) (logp (blockScores x0 x1 x2 x3 x4 x5 x6 x7 a)) (fun k => x8 (ix2 a k)))

end Cert.Proof.Val

end
-- ==== Proof.Val.KerArr.lean ====
/- The decoder's two result arrays over the extended reals: every row is the row function of the arrays the region is
   entered with. A point's blocks are rows `8 t` to `8 t + 7` of the masks, of the noise and of the results, and rows
   `8192 t` to `8192 t + 8191` of the gathered embeddings; the weights are whole. -/
module

public import proofs.«01_k».proof.Proof.Val.KerRow
public import proofs.«01_k».proof.Proof.KerIdeal.Region
public import Idealize.ShloMosaic.Lib.Pipeline.ValueKit

@[expose] public section

set_option maxRecDepth 16384

noncomputable section

namespace Cert.Proof.Val

open Cert.KernelIdeal Cert.KernelIdeal.Gen
open Idealize.ShloMosaic Idealize.ShloMosaic.TcCoe
open Cert.Proof.KerIdeal

/-! ## Where a block's elements are in its array -/

theorem point_lt (t : Fin cfg1.N) : t.val < 16 := t.isLt

theorem idx0 : ∀ t : Fin cfg1.N, win1_0.index t (0 : Fin 2) = t.val ∧ win1_0.index t (1 : Fin 2) = 0 :=
  (by decide +kernel : ∀ t : Fin grid1.N, _)
theorem idx1 : ∀ t : Fin cfg1.N, win1_1.index t (0 : Fin 2) = 0 ∧ win1_1.index t (1 : Fin 2) = 0 :=
  (by decide +kernel : ∀ t : Fin grid1.N, _)
theorem idx2' : ∀ t : Fin cfg1.N, win1_2.index t (0 : Fin 2) = 0 ∧ win1_2.index t (1 : Fin 2) = 0 :=
  (by decide +kernel : ∀ t : Fin grid1.N, _)
theorem idx3 : ∀ t : Fin cfg1.N, win1_3.index t (0 : Fin 2) = 0 ∧ win1_3.index t (1 : Fin 2) = 0 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 2) = 0 ∧ win1_6.index t (1 : Fin 2) = 0 :=
  (by decide +kernel : ∀ t : Fin grid1.N, _)
theorem idx7 : ∀ t : Fin cfg1.N, win1_7.index t (0 : Fin 2) = t.val ∧ win1_7.index t (1 : Fin 2) = 0 :=
  (by decide +kernel : ∀ t : Fin grid1.N, _)
theorem idx8 : ∀ t : Fin cfg1.N, win1_8.index t (0 : Fin 2) = t.val ∧ win1_8.index t (1 : Fin 2) = 0 :=
  (by decide +kernel : ∀ t : Fin grid1.N, _)
theorem idx9 : ∀ t : Fin cfg1.N, win1_9.index t (0 : Fin 2) = t.val ∧ win1_9.index t (1 : Fin 2) = 0 :=
  (by decide +kernel : ∀ t : Fin grid1.N, _)
theorem idx10 : ∀ t : Fin cfg1.N, win1_10.index t (0 : Fin 2) = t.val ∧ win1_10.index t (1 : Fin 2) = 0 :=
  (by decide +kernel : ∀ t : Fin grid1.N, _)

theorem emb0 (t : Fin cfg1.N) (p : Fin 8192) (q : Fin 128) :
    ((cfg1.win 0).blk t).view.emb (ix2 p q : S8192x128.Idx) = (ix2 ⟨t.val * 8192 + p.val, by have := point_lt t; omega⟩ q : S131072x128.Idx) := by
  obtain ⟨e0, e1⟩ := idx0 t
  funext a; apply Fin.ext
  match a with
  | ⟨0, _⟩ => show win1_0.index t (0 : Fin 2) * 8192 + 1 * p.val = t.val * 8192 + p.val; omega
  | ⟨1, _⟩ => show win1_0.index t (1 : Fin 2) * 128 + 1 * q.val = q.val; omega

theorem emb1 (t : Fin cfg1.N) (j : S128x128.Idx) : ((cfg1.win 1).blk t).view.emb j = j := by
  obtain ⟨e0, e1⟩ := idx1 t
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

theorem emb2 (t : Fin cfg1.N) (j : S1x128.Idx) : ((cfg1.win 2).blk t).view.emb j = j := by
  obtain ⟨e0, e1⟩ := idx2' t
  funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

theorem emb3 (t : Fin cfg1.N) (j : S128x128.Idx) : ((cfg1.win 3).blk t).view.emb j = j := by
  obtain ⟨e0, e1⟩ := idx3 t
  funext a; apply Fin.ext
  match a with
  | ⟨0, _⟩ => show win1_3.index t (0 : Fin 2) * 128 + 1 * (j 0).val = (j 0).val; omega
  | ⟨1, _⟩ => show win1_3.index t (1 : Fin 2) * 128 + 1 * (j 1).val = (j 1).val; omega

theorem emb4 (t : Fin cfg1.N) (j : S1x128.Idx) : ((cfg1.win 4).blk t).view.emb j = j := by
  obtain ⟨e0, e1⟩ := idx4 t
  funext a; apply Fin.ext
  match a with
  | ⟨0, _⟩ => show win1_4.index t (0 : Fin 2) * 1 + 1 * (j 0).val = (j 0).val; omega
  | ⟨1, _⟩ => show win1_4.index t (1 : Fin 2) * 128 + 1 * (j 1).val = (j 1).val; omega

theorem emb5 (t : Fin cfg1.N) (j : S128x1.Idx) : ((cfg1.win 5).blk t).view.emb j = j := by
  obtain ⟨e0, e1⟩ := idx5 t
  funext a; apply Fin.ext
  match a with
  | ⟨0, _⟩ => show win1_5.index t (0 : Fin 2) * 128 + 1 * (j 0).val = (j 0).val; omega
  | ⟨1, _⟩ => show win1_5.index t (1 : Fin 2) * 1 + 1 * (j 1).val = (j 1).val; omega

theorem emb6 (t : Fin cfg1.N) (j : S1x1.Idx) : ((cfg1.win 6).blk t).view.emb j = j := by
  obtain ⟨e0, e1⟩ := idx6 t
  funext a; apply Fin.ext
  match a with
  | ⟨0, _⟩ => show win1_6.index t (0 : Fin 2) * 1 + 1 * (j 0).val = (j 0).val; omega
  | ⟨1, _⟩ => show win1_6.index t (1 : Fin 2) * 1 + 1 * (j 1).val = (j 1).val; omega

/-- The batch that row `a` of point `t`'s blocks is. -/
abbrev batch (t : Fin cfg1.N) (a : Fin 8) : Fin 128 := ⟨t.val * 8 + a.val, by have := point_lt t; omega⟩

theorem emb7 (t : Fin cfg1.N) (a : Fin 8) (k : Fin 1024) :
    ((cfg1.win 7).blk t).view.emb (ix2 a k : S8x1024.Idx) = (ix2 (batch t a) k : S128x1024.Idx) := by
  obtain ⟨e0, e1⟩ := idx7 t
  funext x; apply Fin.ext
  match x with
  | ⟨0, _⟩ => show win1_7.index t (0 : Fin 2) * 8 + 1 * a.val = t.val * 8 + a.val; omega
  | ⟨1, _⟩ => show win1_7.index t (1 : Fin 2) * 1024 + 1 * k.val = k.val; omega

theorem emb8 (t : Fin cfg1.N) (a : Fin 8) (k : Fin 1024) :
    ((cfg1.win 8).blk t).view.emb (ix2 a k : S8x1024.Idx) = (ix2 (batch t a) k : S128x1024.Idx) := by
  obtain ⟨e0, e1⟩ := idx8 t
  funext x; apply Fin.ext
  match x with
  | ⟨0, _⟩ => show win1_8.index t (0 : Fin 2) * 8 + 1 * a.val = t.val * 8 + a.val; omega
  | ⟨1, _⟩ => show win1_8.index t (1 : Fin 2) * 1024 + 1 * k.val = k.val; omega

theorem emb9 (t : Fin cfg1.N) (a : Fin 8) (k : Fin 1024) :
    ((cfg1.win 9).blk t).view.emb (ix2 a k : S8x1024.Idx) = (ix2 (batch t a) k : S128x1024.Idx) := by
  obtain ⟨e0, e1⟩ := idx9 t
  funext x; apply Fin.ext
  match x with
  | ⟨0, _⟩ => show win1_9.index t (0 : Fin 2) * 8 + 1 * a.val = t.val * 8 + a.val; omega
  | ⟨1, _⟩ => show win1_9.index t (1 : Fin 2) * 1024 + 1 * k.val = k.val; omega

theorem emb10 (t : Fin cfg1.N) (a : Fin 8) (z : Fin 1) :
    ((cfg1.win 10).blk t).view.emb (ix2 a z : S8x1.Idx) = (ix2 (batch t a) z : S128x1.Idx) := by
  obtain ⟨e0, e1⟩ := idx10 t
  funext x; apply Fin.ext
  match x with
  | ⟨0, _⟩ => show win1_10.index t (0 : Fin 2) * 8 + 1 * a.val = t.val * 8 + a.val; omega
  | ⟨1, _⟩ => show win1_10.index t (1 : Fin 2) * 1 + 1 * z.val = z.val; omega

/-! ## The rows -/

variable (V : (c : Dev nD) → (b : Ref sig .tc) → Buf (Elt Ideal) ((c : Thread nD τ).loc b)) (c : Dev nD)

/-- A batch's masked scores, from the arrays the region is entered with. -/
def rowScores (X : S131072x128.Idx → EReal) (W₁ : S128x128.Idx → EReal) (b₁ : S1x128.Idx → EReal) (W₂ : S128x128.Idx → EReal)
    (b₂ : S1x128.Idx → EReal) (W₃ : S128x1.Idx → EReal) (b₃ : S1x1.Idx → EReal) (M : S128x1024.Idx → BitVec 32) (b : Fin 128) (k : Fin 1024) : EReal :=
  Scalar.select (IntOp.cmpi .ne (M (ix2 b k)) 0#32)
    (score (fun q => X (ix2 ⟨b.val * 1024 + k.val, by omega⟩ q)) (fun i j => W₁ (ix2 i j)) (fun i => b₁ (ix2 0 i)) (fun i j => W₂ (ix2 i j))
      (fun i => b₂ (ix2 0 i)) (fun i => W₃ (ix2 i 0)) (b₃ (ix2 0 0))) low

/-- The same, of a valuation. -/
abbrev scoresAt (b : Fin 128) : Fin 1024 → EReal :=
  rowScores (V c main_v8) (V c main_arg2) (V c main_v9) (V c main_arg4) (V c main_v10) (V c main_arg6) (V c main_v11) (V c main_v12) b

theorem win0_at (t : Fin cfg1.N) (p : Fin 8192) (q : Fin 128) :
    (winAt V c 0 t : Vec Ideal S8192x128 .f32) (ix2 p q)
      = (V c main_v8 : S131072x128.Idx → EReal) (ix2 ⟨t.val * 8192 + p.val, by have := point_lt t; omega⟩ q) := by
  show V c main_v8 (((cfg1.win 0).blk t).view.emb _) = _
  rw [emb0]
theorem win1_at (t : Fin cfg1.N) (j : S128x128.Idx) : (winAt V c 1 t : Vec Ideal S128x128 .f32) j = V c main_arg2 j := by
  show V c main_arg2 (((cfg1.win 1).blk t).view.emb _) = _
  rw [emb1]
theorem win2_at (t : Fin cfg1.N) (j : S1x128.Idx) : (winAt V c 2 t : Vec Ideal S1x128 .f32) j = V c main_v9 j := by
  show V c main_v9 (((cfg1.win 2).blk t).view.emb _) = _
  rw [emb2]
theorem win3_at (t : Fin cfg1.N) (j : S128x128.Idx) : (winAt V c 3 t : Vec Ideal S128x128 .f32) j = V c main_arg4 j := by
  show V c main_arg4 (((cfg1.win 3).blk t).view.emb _) = _
  rw [emb3]
theorem win4_at (t : Fin cfg1.N) (j : S1x128.Idx) : (winAt V c 4 t : Vec Ideal S1x128 .f32) j = V c main_v10 j := by
  show V c main_v10 (((cfg1.win 4).blk t).view.emb _) = _
  rw [emb4]
theorem win5_at (t : Fin cfg1.N) (j : S128x1.Idx) : (winAt V c 5 t : Vec Ideal S128x1 .f32) j = V c main_arg6 j := by
  show V c main_arg6 (((cfg1.win 5).blk t).view.emb _) = _
  rw [emb5]
theorem win6_at (t : Fin cfg1.N) (j : S1x1.Idx) : (winAt V c 6 t : Vec Ideal S1x1 .f32) j = V c main_v11 j := by
  show V c main_v11 (((cfg1.win 6).blk t).view.emb _) = _
  rw [emb6]
theorem win7_at (t : Fin cfg1.N) (a : Fin 8) (k : Fin 1024) :
    (winAt V c 7 t : Vec Ideal S8x1024 .i32) (ix2 a k) = (V c main_v12 : S128x1024.Idx → BitVec 32) (ix2 (batch t a) k) := by
  show V c main_v12 (((cfg1.win 7).blk t).view.emb _) = _
  rw [emb7]
theorem win8_at (t : Fin cfg1.N) (a : Fin 8) (k : Fin 1024) :
    (winAt V c 8 t : Vec Ideal S8x1024 .f32) (ix2 a k) = (V c main_arg1 : S128x1024.Idx → EReal) (ix2 (batch t a) k) := by
  show V c main_arg1 (((cfg1.win 8).blk t).view.emb _) = _
  rw [emb8]

/-- A point's scores are its batches'. -/
theorem blockScores_eq (t : Fin cfg1.N) (a : Fin 8) :
    blockScores (winAt V c 0 t) (winAt V c 1 t) (winAt V c 2 t) (winAt V c 3 t) (winAt V c 4 t) (winAt V c 5 t) (winAt V c 6 t) (winAt V c 7 t) a
      = scoresAt V c (batch t a) := by
  funext k
  have e : (⟨t.val * 8192 + (a.val * 1024 + k.val), by have := point_lt t; omega⟩ : Fin 131072)
      = ⟨(batch t a).val * 1024 + k.val, by have := point_lt t; have := (batch t a).isLt; omega⟩ := Fin.ext (by
    show t.val * 8192 + (a.val * 1024 + k.val) = (t.val * 8 + a.val) * 1024 + k.val
    omega)
  simp only [blockScores, scoresAt, rowScores, win0_at, win1_at, win2_at, win3_at, win4_at, win5_at, win6_at, win7_at, e]

/-! ## The arrays -/

variable (n : ℕ)

theorem logpArr_at (b : Fin 128) (k : Fin 1024) :
    (logpArr V n c : S128x1024.Idx → EReal) (ix2 b k) = logp (scoresAt V c b) k := by
  have h := (dat V n c).arrAt_eq_of_covers 9 (fun j : S128x1024.Idx => logp (scoresAt V c (j 0)) (j 1)) (by decide +kernel) fun t hf y => by
    obtain ⟨a, i, rfl⟩ : ∃ (a : Fin 8) (i : Fin 1024), y = (ix2 a i : S8x1024.Idx) := ⟨y 0, y 1, eq_ix2 y⟩
    rw [emb9]
    refine (logpOf_at _ _ _ _ _ _ _ _ a i).trans ?_
    rw [blockScores_eq]
    rfl
  exact congrFun h (ix2 b k)

theorem pickArr_at (b : Fin 128) (z : Fin 1) :
    IsFirst (keys (fun k => IntOp.cmpi .ne ((V c main_v12 : S128x1024.Idx → BitVec 32) (ix2 b k)) 0#32) (logp (scoresAt V c b))
        (fun k => (V c main_arg1 : S128x1024.Idx → EReal) (ix2 b k)))
      ((pickArr V n c : S128x1.Idx → BitVec 32) (ix2 b z)) := by
  have h := (dat V n c).arrAt_forall_of_covers 10 (fun (j : S128x1.Idx) (v : BitVec 32) =>
      IsFirst (keys (fun k => IntOp.cmpi .ne ((V c main_v12 : S128x1024.Idx → BitVec 32) (ix2 (j 0) k)) 0#32) (logp (scoresAt V c (j 0)))
        (fun k => (V c main_arg1 : S128x1024.Idx → EReal) (ix2 (j 0) k))) v) (by decide +kernel) fun t hf y => by
    obtain ⟨a, i, rfl⟩ : ∃ (a : Fin 8) (i : Fin 1), y = (ix2 a i : S8x1.Idx) := ⟨y 0, y 1, eq_ix2 y⟩
    rw [emb10]
    have hp := pickOf_first (winAt V c 0 t) (winAt V c 1 t) (winAt V c 2 t) (winAt V c 3 t) (winAt V c 4 t) (winAt V c 5 t) (winAt V c 6 t)
      (winAt V c 7 t) (winAt V c 8 t) a i
    rw [blockScores_eq] at hp
    simp only [win7_at, win8_at] at hp
    exact hp
  exact h (ix2 b z)

end Cert.Proof.Val

end
-- ==== Proof.Val.RefPick.lean ====
/- The reference's arg-max of a row, over the extended reals: the pair its fold ends with is the greatest value and the
   first place that has it. -/
module

public import proofs.«01_k».proof.Proof.Val.Spec
public import proofs.«01_k».proof.Proof.Gen.ReferenceIdeal

@[expose] public section

noncomputable section

namespace Cert.Proof.Val

open Cert.ReferenceIdeal Cert.ReferenceIdeal.Gen
open Idealize.ShloMosaic

/-- The first pair is kept against the second: a greater value, or the same value at a place not later. -/
def Beats (a b : EReal × BitVec 32) : Prop := b.1 < a.1 ∨ (a.1 = b.1 ∧ a.2.toInt ≤ b.2.toInt)

theorem Beats.refl (a : EReal × BitVec 32) : Beats a a := .inr ⟨rfl, le_rfl⟩

theorem Beats.trans {a b c : EReal × BitVec 32} (h : Beats a b) (h' : Beats b c) : Beats a c := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem Beats.le {a b : EReal × BitVec 32} (h : Beats a b) : b.1 ≤ a.1 := by
  rcases h with h | ⟨h, -⟩
  · exact h.le
  · exact h.ge

open Classical in
/-- The reduction's body keeps one of its two pairs. -/
theorem reducer_eq (a b : EReal × BitVec 32) :
    reducer_argmax_f32_i32 (F := Ideal) a b = if b.1 < a.1 ∨ (a.1 = b.1 ∧ a.2.toInt < b.2.toInt) then a else b := by
  obtain ⟨a₁, a₂⟩ := a
  obtain ⟨b₁, b₂⟩ := b
  have hs : a₂.slt b₂ = decide (a₂.toInt < b₂.toInt) := rfl
  by_cases h₁ : b₁ < a₁
  · rcases Bool.eq_false_or_eq_true (decide (a₁ = b₁) && a₂.slt b₂) with e | e <;>
      simp [reducer_argmax_f32_i32, Ideal.cmpf_def, Ideal.cmp, IntOp.ori, IntOp.andi, IntOp.cmpi, Scalar.select, h₁, e]
  · by_cases h₂ : a₁ = b₁
    · subst h₂
      by_cases h₃ : a₂.toInt < b₂.toInt
      · simp [reducer_argmax_f32_i32, Ideal.cmpf_def, Ideal.cmp, IntOp.ori, IntOp.andi, IntOp.cmpi, Scalar.select, hs, h₃]
      · simp [reducer_argmax_f32_i32, Ideal.cmpf_def, Ideal.cmp, IntOp.ori, IntOp.andi, IntOp.cmpi, Scalar.select, hs, h₃]
    · simp [reducer_argmax_f32_i32, Ideal.cmpf_def, Ideal.cmp, IntOp.ori, IntOp.andi, IntOp.cmpi, Scalar.select, h₁, h₂]

theorem reducer_beats (a b : EReal × BitVec 32) :
    Beats (reducer_argmax_f32_i32 (F := Ideal) a b) a ∧ Beats (reducer_argmax_f32_i32 (F := Ideal) a b) b
      ∧ (reducer_argmax_f32_i32 (F := Ideal) a b = a ∨ reducer_argmax_f32_i32 (F := Ideal) a b = b) := by
  classical
  rw [reducer_eq]
  split
  · rename_i h
    refine ⟨.refl a, ?_, .inl rfl⟩
    rcases h with h | ⟨h, hi⟩
    · exact .inl h
    · exact .inr ⟨h, hi.le⟩
  · rename_i h
    refine ⟨?_, .refl b, .inr rfl⟩
    rw [not_or, not_and] at h
    rcases (not_lt.mp h.1).lt_or_eq with h' | h'
    · exact .inl h'
    · exact .inr ⟨h'.symm, not_lt.mp (h.2 h')⟩

/-- What the fold over a list of pairs ends with: a pair it was given, kept against every one of them. -/
theorem foldl_beats (l : List (EReal × BitVec 32)) : ∀ p₀ : EReal × BitVec 32,
    Beats (l.foldl (reducer_argmax_f32_i32 (F := Ideal)) p₀) p₀ ∧ (∀ q ∈ l, Beats (l.foldl (reducer_argmax_f32_i32 (F := Ideal)) p₀) q)
      ∧ (l.foldl (reducer_argmax_f32_i32 (F := Ideal)) p₀ = p₀ ∨ l.foldl (reducer_argmax_f32_i32 (F := Ideal)) p₀ ∈ l) := by
  induction l with
  | nil => exact fun p₀ => ⟨.refl p₀, fun q hq => absurd hq List.not_mem_nil, .inl rfl⟩
  | cons x l ih =>
    intro p₀
    obtain ⟨h₁, h₂, h₃⟩ := ih (reducer_argmax_f32_i32 (F := Ideal) p₀ x)
    obtain ⟨r₁, r₂, r₃⟩ := reducer_beats p₀ x
    rw [List.foldl_cons]
    refine ⟨h₁.trans r₁, fun q hq => ?_, ?_⟩
    · rcases List.mem_cons.mp hq with rfl | hq
      · exact h₁.trans r₂
      · exact h₂ q hq
    · rcases h₃ with h₃ | h₃
      · rcases r₃ with r₃ | r₃
        · exact .inl (h₃.trans r₃)
        · exact .inr (List.mem_cons.mpr (.inl (h₃.trans r₃)))
      · exact .inr (List.mem_cons_of_mem _ h₃)

/-- The fold from the lowest value over a row's pairs ends at the first place of the row's greatest value. -/
theorem first_of_foldl (f : Fin 1024 → EReal) (l : List (EReal × BitVec 32)) (hl : ∀ p, p ∈ l ↔ ∃ k : Fin 1024, p = (f k, BitVec.ofNat 32 k.val)) :
    IsFirst f (l.foldl (reducer_argmax_f32_i32 (F := Ideal)) (low, 0#32)).2 := by
  obtain ⟨h₁, h₂, h₃⟩ := foldl_beats l (low, 0#32)
  generalize l.foldl (reducer_argmax_f32_i32 (F := Ideal)) (low, 0#32) = p at h₁ h₂ h₃
  have hk : ∀ k, Beats p (f k, BitVec.ofNat 32 k.val) := fun k => h₂ _ ((hl _).mpr ⟨k, rfl⟩)
  rcases h₃ with rfl | h₃
  · have hb : ∀ k, f k = ⊥ := fun k => le_bot_iff.mp (low_eq ▸ (hk k).le)
    exact ⟨0, rfl, fun i => by rw [hb, hb], fun i _ => Fin.zero_le i⟩
  · obtain ⟨k, rfl⟩ := (hl p).mp h₃
    refine ⟨k, rfl, fun i => (hk i).le, fun i e => ?_⟩
    rcases hk i with h | ⟨-, h⟩
    · exact absurd e h.ne
    · rw [toInt_place, toInt_place] at h
      exact_mod_cast h

theorem drop_row (i : S128x1024.Idx) (b : Fin 128) : reducesTo_S128x1024_S128_d1.drop i = ix1 b ↔ i 0 = b := by
  rw [funext_iff, Fin.forall_fin_one, Fin.ext_iff, reducesTo_S128x1024_S128_d1.drop_apply_val_of_eq i 0 0]
  exact Fin.ext_iff.symm

theorem iota_at (b : Fin 128) (k : Fin 1024) : iotaInDim S128x1024 32 1 (ix2 b k) = BitVec.ofNat 32 k.val := rfl

/-- The reference's arg-max of an array, row by row. -/
theorem argReduce_first (x : FVec Ideal S128x1024 .f32) (b : Fin 128) :
    IsFirst (fun k => x (ix2 b k))
      (Host.argReduce reducer_argmax_f32_i32 x (iotaInDim S128x1024 32 1) (constant S_ .f32 0xFF800000#32) (constantI S_ 32 0#32)
        reducesTo_S128x1024_S128_d1 h_S_ (ix1 b)).2 := by
  rw [Ideal.argReduce_eq_reduce2, Host.reduce2_eq_foldl_fiber]
  refine first_of_foldl _ _ fun p => ?_
  rw [Host.argReduceFiber, List.mem_map]
  constructor
  · rintro ⟨n, hn, rfl⟩
    have h : reducesTo_S128x1024_S128_d1.drop (S128x1024.rowMajor.symm n) = ix1 b := by
      simpa using (List.mem_filter.mp hn).2
    generalize S128x1024.rowMajor.symm n = i at h ⊢
    obtain ⟨a, k, rfl⟩ : ∃ (a : Fin 128) (k : Fin 1024), i = ix2 a k := ⟨i 0, i 1, eq_ix2 i⟩
    obtain rfl : a = b := (drop_row _ b).mp h
    exact ⟨k, rfl⟩
  · rintro ⟨k, rfl⟩
    refine ⟨S128x1024.rowMajor (ix2 b k), List.mem_filter.mpr ⟨List.mem_finRange _, ?_⟩, ?_⟩
    · rw [Equiv.symm_apply_apply]
      exact decide_eq_true ((drop_row _ b).mpr rfl)
    · rw [Equiv.symm_apply_apply, iota_at]

end Cert.Proof.Val

end
-- ==== Proof.Val.RefRow.lean ====
/- The reference's results as functions of its arguments: each stretch of @main read as one expression of the buffers it
   starts from. -/
module

public import proofs.«01_k».proof.Proof.Ref.Run

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The row numbers as the gather takes them: a negative one counted from the end. -/
def rowsOf (idx : IVec S128x1024 32) : IVec S128x1024x1 32 :=
  let v0 := broadcastInDim S128x1024x1 ![0, 1] bcast_S128x1024_S128x1024x1_0_1 idx
  select (cmpi .slt v0 (broadcastInDim S128x1024x1 ![] bcast_S_S128x1024x1 (constantI S_ 32 0#32)))
    (addi v0 (broadcastInDim S128x1024x1 ![] bcast_S_S128x1024x1 (constantI S_ 32 4096#32))) v0

/-- Which row numbers name a row. -/
def insideOf (r : IVec S128x1024x1 32) : IVec S128x1024 1 :=
  Host.reduce IntOp.andi
    (andi (cmpi .sge r (broadcastInDim S128x1024x1 ![] bcast_S_S128x1024x1 (constantI S_ 32 0#32)))
      (cmpi .sle r (broadcastInDim S128x1024x1 ![0, 1, 2] bcast_S1x1x1_S128x1024x1_0_1_2
        (broadcastInDim S1x1x1 ![2] bcast_S1_S1x1x1_2 (constantI S1 32 4095#32)))))
    (constantI S_ 1 1#1) reducesTo_S128x1024x1_S128x1024_d2 h_S_

/-- The rows taken. -/
def takeOf (E : FVec F S128x4096x128 .f32) (idx : IVec S128x1024 32) : FVec F S128x1024x128 .f32 :=
  select (broadcastInDim S128x1024x128 ![0, 1] bcast_S128x1024_S128x1024x128_0_1 (insideOf (rowsOf idx)))
    (Host.gather gather_S128x4096x128_S128x1024x1_S128x1024x128_2_1_0_0_1_2_11128 E (rowsOf idx))
    (broadcastInDim S128x1024x128 ![] bcast_S_S128x1024x128 (constant S_ .f32 0x7FC00000#32))

/-- The actor's scores. -/
def scoresOf (X : FVec F S128x1024x128 .f32) (W₁ : FVec F S128x128 .f32) (b₁ : FVec F S128 .f32) (W₂ : FVec F S128x128 .f32)
    (b₂ : FVec F S128 .f32) (W₃ : FVec F S128x1 .f32) (b₃ : FVec F S1 .f32) : FVec F S128x1024 .f32 :=
  let h₁ := Host.tanh (addf (Host.dotGeneral dot_S128x1024x128_S128x128_S128x1024x128_2_0_01_1_n_n none X W₁)
    (broadcastInDim S128x1024x128 ![0, 1, 2] bcast_S1x1x128_S128x1024x128_0_1_2 (broadcastInDim S1x1x128 ![2] bcast_S128_S1x1x128_2 b₁)))
  let h₂ := Host.tanh (addf (Host.dotGeneral dot_S128x1024x128_S128x128_S128x1024x128_2_0_01_1_n_n none h₁ W₂)
    (broadcastInDim S128x1024x128 ![0, 1, 2] bcast_S1x1x128_S128x1024x128_0_1_2 (broadcastInDim S1x1x128 ![2] bcast_S128_S1x1x128_2 b₂)))
  shapeCast S128x1024 (addf (Host.dotGeneral dot_S128x1024x128_S128x1_S128x1024x1_2_0_01_1_n_n none h₂ W₃)
    (broadcastInDim S128x1024x1 ![0, 1, 2] bcast_S1x1x1_S128x1024x1_0_1_2 (broadcastInDim S1x1x1 ![2] bcast_S1_S1x1x1_2 b₃)))
    shapeCasts_S128x1024x1_S128x1024

/-- An array with the lowest value where its mask is off. -/
def maskOf (valid : IVec S128x1024 1) (s : FVec F S128x1024 .f32) : FVec F S128x1024 .f32 :=
  select valid s (broadcastInDim S128x1024 ![] bcast_S_S128x1024 (constant S_ .f32 0xFF800000#32))

/-- Each row less its greatest value. -/
def centredOf (s : FVec F S128x1024 .f32) : FVec F S128x1024 .f32 :=
  subf s (broadcastInDim S128x1024 ![0, 1] bcast_S128x1_S128x1024_0_1 (broadcastInDim S128x1 ![0] bcast_S128_S128x1_0
    (maximumf (broadcastInDim S128 ![] bcast_S_S128 (constant S_ .f32 0xFF800000#32))
      (Host.reduce FloatOps.maximumf s (constant S_ .f32 0xFF800000#32) reducesTo_S128x1024_S128_d1 h_S_))))

/-- The logarithm of each row's softmax. -/
def softOf (s : FVec F S128x1024 .f32) : FVec F S128x1024 .f32 :=
  subf (centredOf s) (broadcastInDim S128x1024 ![0, 1] bcast_S128x1_S128x1024_0_1 (Host.log (broadcastInDim S128x1 ![0] bcast_S128_S128x1_0
    (Host.reduceAdd (Host.exp (centredOf s)) (constant S_ .f32 0x00000000#32) reducesTo_S128x1024_S128_d1 h_S_))))

/-- The perturbed scores. -/
def keysOf (valid : IVec S128x1024 1) (p u : FVec F S128x1024 .f32) : FVec F S128x1024 .f32 :=
  maskOf valid (addf p (Host.negf (Host.log (Host.negf (Host.log u)))))

/-- The place of each row's greatest value. -/
def placeOf (x : FVec F S128x1024 .f32) : IVec S128 32 := fun j =>
  (Host.argReduce reducer_argmax_f32_i32 x (iotaInDim S128x1024 32 1) (constant S_ .f32 0xFF800000#32) (constantI S_ 32 0#32)
    reducesTo_S128x1024_S128_d1 h_S_ j).2

variable (V : Valuation τ sig (Elt F))

theorem take_eq : after opsTake V (Proc.devRef .tc main_v1) = takeOf (V (Proc.devRef .tc main_arg0)) (V (Proc.devRef .tc main_arg8)) := by
  unfold opsTake
  after_results
  simp only [TRef.ofBuf_toBuf]
  unfold takeOf insideOf rowsOf
  simp only [TRef.ofBuf, TRef.toBuf, cast_eq]

theorem actor_eq : after opsActor V (Proc.devRef .tc main_v16)
    = scoresOf (V (Proc.devRef .tc main_v1)) (V (Proc.devRef .tc main_arg2)) (V (Proc.devRef .tc main_arg3)) (V (Proc.devRef .tc main_arg4))
        (V (Proc.devRef .tc main_arg5)) (V (Proc.devRef .tc main_arg6)) (V (Proc.devRef .tc main_arg7)) := by
  unfold opsActor
  after_results
  rfl

theorem soft_eq : after opsSoft V (Proc.devRef .tc main_v18)
    = softOf (maskOf (V (Proc.devRef .tc main_arg9)) (V (Proc.devRef .tc main_v16))) := by
  unfold opsSoft
  after_results
  simp only [TRef.ofBuf_toBuf]
  rfl

theorem pick_eq : after opsPick V (Proc.devRef .tc main_v25)
    = placeOf (keysOf (V (Proc.devRef .tc main_arg9)) (V (Proc.devRef .tc main_v18)) (V (Proc.devRef .tc main_arg1))) := by
  unfold opsPick
  after_results
  simp only [TRef.ofBuf_toBuf]
  rfl

/-- The log-probabilities from the arguments. -/
theorem logp_eq : after ops V (Proc.devRef .tc main_v18)
    = softOf (maskOf (V (Proc.devRef .tc main_arg9)) (scoresOf (takeOf (V (Proc.devRef .tc main_arg0)) (V (Proc.devRef .tc main_arg8)))
        (V (Proc.devRef .tc main_arg2)) (V (Proc.devRef .tc main_arg3)) (V (Proc.devRef .tc main_arg4))
        (V (Proc.devRef .tc main_arg5)) (V (Proc.devRef .tc main_arg6)) (V (Proc.devRef .tc main_arg7)))) := by
  rw [after_ops, pick_kept _ main_v18 (by decide), soft_eq, actor_kept _ main_arg9 (by decide), take_kept _ main_arg9 (by decide), actor_eq, take_eq,
    take_kept _ main_arg2 (by decide), take_kept _ main_arg3 (by decide), take_kept _ main_arg4 (by decide),
    take_kept _ main_arg5 (by decide), take_kept _ main_arg6 (by decide), take_kept _ main_arg7 (by decide)]

/-- The choice from the log-probabilities. -/
theorem choice_eq : after ops V (Proc.devRef .tc main_v25)
    = placeOf (keysOf (V (Proc.devRef .tc main_arg9)) (after ops V (Proc.devRef .tc main_v18)) (V (Proc.devRef .tc main_arg1))) := by
  rw [after_ops, pick_eq, pick_kept _ main_v18 (by decide),
    soft_kept _ main_arg9 (by decide), actor_kept _ main_arg9 (by decide), take_kept _ main_arg9 (by decide),
    soft_kept _ main_arg1 (by decide), actor_kept _ main_arg1 (by decide), take_kept _ main_arg1 (by decide)]

end Cert.Proof.Ref

end
-- ==== Proof.Val.RefVal.lean ====
/- The reference's results at an element, over the extended reals: the row functions of the rows its indices name. -/
module

public import proofs.«01_k».proof.Proof.Val.RefPick
public import proofs.«01_k».proof.Proof.Val.RefRow

@[expose] public section

set_option maxRecDepth 16384

noncomputable section

namespace Cert.Proof.Val

open Cert.ReferenceIdeal Cert.ReferenceIdeal.Gen
open Idealize.ShloMosaic
open Cert.Proof.Ref

/-- The row of the embeddings that a batch's index names. -/
def rowAt (E : FVec Ideal S128x4096x128 .f32) (idx : IVec S128x1024 32) (h : ∀ j, (idx j).toNat < 4096) (b : Fin 128) (k : Fin 1024)
    (c : Fin 128) : EReal := E (ix3 b ⟨(idx (ix2 b k)).toNat, h _⟩ c)

theorem scoresOf_at (X : FVec Ideal S128x1024x128 .f32) (W₁ : FVec Ideal S128x128 .f32) (b₁ : FVec Ideal S128 .f32) (W₂ : FVec Ideal S128x128 .f32)
    (b₂ : FVec Ideal S128 .f32) (W₃ : FVec Ideal S128x1 .f32) (b₃ : FVec Ideal S1 .f32) (a : Fin 128) (k : Fin 1024) :
    scoresOf X W₁ b₁ W₂ b₂ W₃ b₃ (ix2 a k)
      = score (fun c => X (ix3 a k c)) (fun i j => W₁ (ix2 i j)) (fun i => b₁ (ix1 i)) (fun i j => W₂ (ix2 i j)) (fun i => b₂ (ix1 i))
          (fun i => W₃ (ix2 i 0)) (b₃ (ix1 0)) := by
  pointwise [scoresOf]
  rfl

theorem centredOf_at (s : FVec Ideal S128x1024 .f32) (a : Fin 128) (k : Fin 1024) :
    centredOf s (ix2 a k) = s (ix2 a k) - top (fun i => s (ix2 a i)) := by
  pointwise [centredOf]
  rw [max_eq_right (show low ≤ _ by rw [low_eq]; exact bot_le)]
  rfl

theorem softOf_at (s : FVec Ideal S128x1024 .f32) (a : Fin 128) (k : Fin 1024) : softOf s (ix2 a k) = logp (fun i => s (ix2 a i)) k := by
  pointwise [softOf]
  simp only [centredOf_at]
  rfl

theorem maskOf_at (valid : IVec S128x1024 1) (s : FVec Ideal S128x1024 .f32) (a : Fin 128) (k : Fin 1024) :
    maskOf valid s (ix2 a k) = Scalar.select (valid (ix2 a k)) (s (ix2 a k)) low := by
  pointwise [maskOf]

theorem keysOf_at (valid : IVec S128x1024 1) (p u : FVec Ideal S128x1024 .f32) (a : Fin 128) (k : Fin 1024) :
    keysOf valid p u (ix2 a k) = keys (fun i => valid (ix2 a i)) (fun i => p (ix2 a i)) (fun i => u (ix2 a i)) k := by
  pointwise [keysOf, maskOf]
  rfl

section Take

local notation "𝔡" => gather_S128x4096x128_S128x1024x1_S128x1024x128_2_1_0_0_1_2_11128

variable (E : FVec Ideal S128x4096x128 .f32) (idx : IVec S128x1024 32) (h : ∀ j, (idx j).toNat < 4096) (a : Fin 128) (k : Fin 1024)

include h in
/-- In range, an index is taken as it is. -/
theorem rowsOf_at (z : Fin 1) : rowsOf idx (ix3 a k z) = idx (ix2 a k) := by
  pointwise [rowsOf]
  have := h (ix2 a k)
  rw [Scalar.select, if_neg]
  intro e
  have e' := IntOp.cmpi_slt.mp e
  rw [BitVec.toInt_eq_toNat_of_lt (by omega)] at e'
  simp at e'
  omega

include h in
/-- In range, every index names a row. -/
theorem insideOf_at : insideOf (rowsOf idx) (ix2 a k) = 1#1 := by
  pointwise [insideOf]
  have := h (ix2 a k)
  have e : (idx (ix2 a k)).toInt = (idx (ix2 a k)).toNat := BitVec.toInt_eq_toNat_of_lt (by omega)
  have one : ∀ z : Fin 1, IntOp.andi (IntOp.cmpi .sge (rowsOf idx (ix3 a k z)) 0#32) (IntOp.cmpi .sle (rowsOf idx (ix3 a k z)) 4095#32) = 1#1 := by
    intro z
    rw [rowsOf_at idx h, IntOp.cmpi_sge.mpr (by rw [e]; simp), IntOp.cmpi_sle.mpr (by rw [e, show (4095#32 : BitVec 32).toInt = 4095 from rfl]; omega)]
    rfl
  simp only [one]
  rfl

/-- The gather at an element: the batch's own row at the index read signed and clamped. -/
theorem gather_at (r : IVec S128x1024x1 32) (c : Fin 128) :
    Host.gather gather_S128x4096x128_S128x1024x1_S128x1024x128_2_1_0_0_1_2_11128 E r (ix3 a k c)
      = E (ix3 a ⟨min (r (ix3 a k 0)).toInt.toNat 4095, by omega⟩ c) := by
  unfold Host.gather
  have b0 : (0 : Fin 3) ∈ (GatherDims.operandBatchingDims 𝔡) := List.mem_singleton.mpr rfl
  have b1 : (1 : Fin 3) ∉ (GatherDims.operandBatchingDims 𝔡) := fun h => absurd (List.mem_singleton.mp h) (by decide)
  have b2 : (2 : Fin 3) ∉ (GatherDims.operandBatchingDims 𝔡) := fun h => absurd (List.mem_singleton.mp h) (by decide)
  have k0 : (0 : Fin 3) ∉ (GatherDims.sKept 𝔡) := fun h => ((GatherDims.mem_sKept _ _).mp h).2 b0
  have k1 : (1 : Fin 3) ∉ (GatherDims.sKept 𝔡) := fun h => ((GatherDims.mem_sKept _ _).mp h).1 (List.mem_singleton.mpr rfl)
  have s1 : (1 : Fin 3) ∈ (GatherDims.startIndexMap 𝔡) := List.mem_singleton.mpr rfl
  have s2 : (2 : Fin 3) ∉ (GatherDims.startIndexMap 𝔡) := fun h => absurd (List.mem_singleton.mp h) (by decide)
  have hsi : ∀ q, GatherDims.siIdx 𝔡 (ix3 a k c) q = ix3 a k 0 := by
    intro q
    funext y
    refine Fin.ext ?_
    match y with
    | ⟨0, _⟩ => rfl
    | ⟨1, _⟩ => rfl
    | ⟨2, _⟩ =>
      have hq : q.val < 1 := q.isLt
      change q.val = 0
      omega
  have h0 : GatherDims.start 𝔡 (ix3 a k c) r (0 : Fin 3) + GatherDims.batchCoord 𝔡 (ix3 a k c) (0 : Fin 3)
      + GatherDims.offCoord 𝔡 (ix3 a k c) (0 : Fin 3) = a.val := by
    rw [GatherDims.start_batching _ _ _ _ b0, GatherDims.offCoord_eq_zero _ _ _ k0]
    unfold GatherDims.batchCoord
    rw [dif_pos b0]
    exact Nat.zero_add _
  have h1 : GatherDims.start 𝔡 (ix3 a k c) r (1 : Fin 3) + GatherDims.batchCoord 𝔡 (ix3 a k c) (1 : Fin 3)
      + GatherDims.offCoord 𝔡 (ix3 a k c) (1 : Fin 3) = min (r (ix3 a k 0)).toInt.toNat 4095 := by
    rw [GatherDims.batchCoord_eq_zero _ _ _ b1, GatherDims.offCoord_eq_zero _ _ _ k1]
    unfold GatherDims.start
    rw [dif_pos s1, hsi]
    rfl
  have h2 : GatherDims.start 𝔡 (ix3 a k c) r (2 : Fin 3) + GatherDims.batchCoord 𝔡 (ix3 a k c) (2 : Fin 3)
      + GatherDims.offCoord 𝔡 (ix3 a k c) (2 : Fin 3) = c.val := by
    rw [GatherDims.batchCoord_eq_zero _ _ _ b2]
    unfold GatherDims.start
    rw [dif_neg s2]
    exact Nat.zero_add _
  congr 1
  funext x
  refine Fin.ext ?_
  match x with
  | ⟨0, _⟩ => exact h0
  | ⟨1, _⟩ => exact h1
  | ⟨2, _⟩ => exact h2

/-- In range, the rows taken are the rows named. -/
theorem takeOf_at (c : Fin 128) : takeOf E idx (ix3 a k c) = rowAt E idx h a k c := by
  pointwise [takeOf]
  have := h (ix2 a k)
  rw [insideOf_at idx h, gather_at, Scalar.select, if_pos (by rfl : (1#1 : BitVec 1) = 1), rowAt]
  have e : (⟨min (rowsOf idx (ix3 a k 0)).toInt.toNat 4095, by omega⟩ : Fin 4096) = ⟨(idx (ix2 a k)).toNat, h _⟩ := by
    refine Fin.ext ?_
    change min (rowsOf idx (ix3 a k 0)).toInt.toNat 4095 = (idx (ix2 a k)).toNat
    rw [rowsOf_at idx h, BitVec.toInt_eq_toNat_of_lt (by omega), Int.toNat_natCast]
    omega
  rw [e]

end Take

end Cert.Proof.Val

end
-- ==== Proof.Val.KerVal.lean ====
/- What the decoder's region is entered with, at an element, from the arguments: the gathered rows are the rows the
   indices name in their own batches, the weights are the arguments reshaped, and the masks are the arguments widened. -/
module

public import proofs.«01_k».proof.Proof.Val.KerArr
public import proofs.«01_k».proof.Proof.Val.RefVal
public import proofs.«01_k».proof.Proof.KerIdeal.Frame

@[expose] public section

set_option maxRecDepth 16384

noncomputable section

namespace Cert.Proof.Val

open Cert.KernelIdeal Cert.KernelIdeal.Gen
open Idealize.ShloMosaic Idealize.ShloMosaic.TcCoe
open Idealize.ShloMosaic.StableHlo (after launchContents)
open Cert.Proof.KerIdeal

variable (m : (ℓ : Loc nD τ sig) → Buf (Elt Ideal) ℓ) (d : Dev nD)

/-- An argument's array at the launch. -/
abbrev argAt (b : Ref sig .tc) : Buf (Elt Ideal) ((d : Thread nD τ).loc b) := m (d, Proc.devRef .tc b)

/-! ## The arrays before the region -/

/-- What neither the host operations nor the gather writes is as at the launch. -/
theorem W₃_arg (b : Ref sig .tc) (hb : b ∉ written) : W₃ m d (Proc.devRef .tc b) = argAt m d b := by
  have ne : ∀ r ∈ written, Proc.devRef (τ := τ) .tc b ≠ Proc.devRef .tc r := fun r hr e =>
    hb (Proc.devRef_injective _ e ▸ hr)
  unfold W₃
  rw [StableHlo.after_of_writes_sub (W := [main_v9, main_v10, main_v11, main_v12]) ops₂ _ (StableHlo.forall_writes_sub_of_map rfl)
    (fun h => hb ((by decide : _ ⊆ written) h))]
  unfold W₂
  rw [Function.update_of_ne (ne _ (by decide))]
  unfold W₁
  rw [StableHlo.after_of_writes_sub (W := [main_v0, main_v1, main_c, main_v2, main_v3, main_v4, main_v5, main_v6, main_v7]) ops₁ _
    (StableHlo.forall_writes_sub_of_map rfl) (fun h => hb ((by decide : _ ⊆ written) h))]

/-- Before the second stretch, too. -/
theorem W₂_arg (b : Ref sig .tc) (hb : b ∉ written) : W₂ m d (Proc.devRef .tc b) = argAt m d b := by
  have ne : ∀ r ∈ written, Proc.devRef (τ := τ) .tc b ≠ Proc.devRef .tc r := fun r hr e =>
    hb (Proc.devRef_injective _ e ▸ hr)
  unfold W₂
  rw [Function.update_of_ne (ne _ (by decide))]
  unfold W₁
  rw [StableHlo.after_of_writes_sub (W := [main_v0, main_v1, main_c, main_v2, main_v3, main_v4, main_v5, main_v6, main_v7]) ops₁ _
    (StableHlo.forall_writes_sub_of_map rfl) (fun h => hb ((by decide : _ ⊆ written) h))]

theorem W₃_v8 : W₃ m d (Proc.devRef .tc main_v8) = gath (fX m d) (fI m d) := by
  unfold W₃
  rw [StableHlo.after_of_writes_sub (W := [main_v9, main_v10, main_v11, main_v12]) ops₂ _ (StableHlo.forall_writes_sub_of_map rfl) (by decide)]
  exact Function.update_self _ _ _

theorem W₃_v9 : W₃ m d (Proc.devRef .tc main_v9) = shapeCast S1x128 (argAt m d main_arg3 : S128.Idx → EReal) shapeCasts_S128_S1x128 := by
  unfold W₃ ops₂
  after_results
  rw [W₂_arg m d main_arg3 (by decide)]
  rfl

theorem W₃_v10 : W₃ m d (Proc.devRef .tc main_v10) = shapeCast S1x128 (argAt m d main_arg5 : S128.Idx → EReal) shapeCasts_S128_S1x128 := by
  unfold W₃ ops₂
  after_results
  rw [W₂_arg m d main_arg5 (by decide)]
  rfl

theorem W₃_v11 : W₃ m d (Proc.devRef .tc main_v11) = shapeCast S1x1 (argAt m d main_arg7 : S1.Idx → EReal) shapeCasts_S1_S1x1 := by
  unfold W₃ ops₂
  after_results
  rw [W₂_arg m d main_arg7 (by decide)]
  rfl

theorem W₃_v12 (j : S128x1024.Idx) :
    (W₃ m d (Proc.devRef .tc main_v12) : S128x1024.Idx → BitVec 32) j = ((argAt m d main_arg9 : S128x1024.Idx → BitVec 1) j).setWidth 32 := by
  have e : W₃ m d (Proc.devRef .tc main_v12) = extui 32 (argAt m d main_arg9 : S128x1024.Idx → BitVec 1) natLt_1_32 := by
    unfold W₃ ops₂
    after_results
    rw [W₂_arg m d main_arg9 (by decide)]
  rw [e]
  rfl

theorem fX_eq : fX m d = shapeCast S524288x128 (argAt m d main_arg0 : S128x4096x128.Idx → EReal) shapeCasts_S128x4096x128_S524288x128 := by
  unfold fX W₁ ops₁
  after_results
  rfl

/-! ## At an element -/

theorem shapeCast_row (f : S128.Idx → EReal) (i : Fin 128) : shapeCast S1x128 f shapeCasts_S128_S1x128 (ix2 0 i) = f (ix1 i) := by
  pointwise

theorem shapeCast_one (f : S1.Idx → EReal) : shapeCast S1x1 f shapeCasts_S1_S1x1 (ix2 0 0) = f (ix1 0) := by
  pointwise

/-- The flat list of row numbers, read at a batch and a place in it. -/
theorem shapeCast_flat (f : S128x1024.Idx → BitVec 32) (b : Fin 128) (k : Fin 1024) :
    shapeCast S1x131072 f shapeCasts_S128x1024_S1x131072 (ix2 0 ⟨b.val * 1024 + k.val, by omega⟩) = f (ix2 b k) := by
  pointwise

/-- The flat table, read at a batch and a row of it. -/
theorem shapeCast_table (f : S128x4096x128.Idx → EReal) (b : Fin 128) (r : Fin 4096) (q : Fin 128) :
    shapeCast S524288x128 f shapeCasts_S128x4096x128_S524288x128 (ix2 ⟨b.val * 4096 + r.val, by omega⟩ q) = f (ix3 b r q) := by
  pointwise

/-! ## A batch's scores -/

section Rows

variable (h : ∀ j, ((argAt m d main_arg8 : S128x1024.Idx → BitVec 32) j).toNat < 4096) (b : Fin 128) (k : Fin 1024)

include h in
/-- In range, the flat row number of a candidate is its row in its own batch. -/
theorem fI_at : (fI m d (ix2 0 ⟨b.val * 1024 + k.val, by omega⟩)).toNat
    = b.val * 4096 + ((argAt m d main_arg8 : S128x1024.Idx → BitVec 32) (ix2 b k)).toNat := by
  rw [fI_eq, shapeCast_flat]
  exact flatOf_toNat _ (ix2 b k) (h _)

theorem gath_read (X : S524288x128.Idx → EReal) (I : S1x131072.Idx → BitVec 32) (n : Fin 131072) (q : Fin 128) :
    gath (F := Ideal) X I (ix2 n q) = X (ix2 ⟨(I (ix2 (0 : Fin 1) n)).toNat % 524288, Nat.mod_lt _ (by decide)⟩ q) := by
  rw [ix2_eq_valueIdx, ix2_eq_valueIdx, ix2_eq_valueIdx]

/-- The gathered row of a candidate is the row its index names in its own batch. -/
theorem gath_at (q : Fin 128) :
    gath (fX m d) (fI m d) (ix2 ⟨b.val * 1024 + k.val, by omega⟩ q)
      = rowAt (argAt m d main_arg0) (argAt m d main_arg8) h b k q := by
  have hk := h (ix2 b k)
  have hn : b.val * 1024 + k.val < 131072 := by omega
  have e : (⟨(fI m d (ix2 (0 : Fin 1) ⟨b.val * 1024 + k.val, hn⟩)).toNat % 524288, Nat.mod_lt _ (by decide)⟩ : Fin 524288)
      = ⟨b.val * 4096 + ((argAt m d main_arg8 : S128x1024.Idx → BitVec 32) (ix2 b k)).toNat, by omega⟩ := Fin.ext (by
    show (fI m d (ix2 (0 : Fin 1) ⟨b.val * 1024 + k.val, hn⟩)).toNat % 524288
      = b.val * 4096 + ((argAt m d main_arg8 : S128x1024.Idx → BitVec 32) (ix2 b k)).toNat
    rw [fI_at m d h]
    exact Nat.mod_eq_of_lt (by omega))
  rw [gath_read, e, fX_eq]
  exact shapeCast_table _ b ⟨_, h _⟩ q

theorem score_congr {x x' : Fin 128 → EReal} {W₁ : Fin 128 → Fin 128 → EReal} {b₁ b₁' : Fin 128 → EReal} {W₂ : Fin 128 → Fin 128 → EReal}
    {b₂ b₂' : Fin 128 → EReal} {W₃ : Fin 128 → EReal} {b₃ b₃' : EReal} (hx : ∀ q, x q = x' q) (h₁ : ∀ i, b₁ i = b₁' i) (h₂ : ∀ i, b₂ i = b₂' i)
    (h₃ : b₃ = b₃') : score x W₁ b₁ W₂ b₂ W₃ b₃ = score x' W₁ b₁' W₂ b₂' W₃ b₃' := by
  rw [funext hx, funext h₁, funext h₂, h₃]

/-- A batch's masked scores, from the arguments. -/
theorem scoresAt_eq :
    scoresAt (atTc (W₃ m)) d b k
      = Scalar.select ((argAt m d main_arg9 : S128x1024.Idx → BitVec 1) (ix2 b k))
          (score (rowAt (argAt m d main_arg0) (argAt m d main_arg8) h b k)
            (fun i j => (argAt m d main_arg2 : S128x128.Idx → EReal) (ix2 i j)) (fun i => (argAt m d main_arg3 : S128.Idx → EReal) (ix1 i))
            (fun i j => (argAt m d main_arg4 : S128x128.Idx → EReal) (ix2 i j)) (fun i => (argAt m d main_arg5 : S128.Idx → EReal) (ix1 i))
            (fun i => (argAt m d main_arg6 : S128x1.Idx → EReal) (ix2 i 0)) ((argAt m d main_arg7 : S1.Idx → EReal) (ix1 0))) low := by
  unfold scoresAt rowScores atTc
  rw [W₃_v8, W₃_v9, W₃_v10, W₃_v11, W₃_arg m d main_arg2 (by decide), W₃_arg m d main_arg4 (by decide), W₃_arg m d main_arg6 (by decide), W₃_v12, mask_back]
  refine congrArg (fun z => Scalar.select _ z low) ?_
  exact score_congr (gath_at m d h b k) (shapeCast_row _) (shapeCast_row _) (shapeCast_one _)

end Rows

end Cert.Proof.Val

end
-- ==== Proof.Val.Equation.lean ====
/- The two programs' results are the same, from the same arguments in range: each row of log-probabilities is the row
   function of the same scores, and each choice is the first place at which the same perturbed scores are greatest. -/
module

public import proofs.«01_k».proof.Proof.Val.KerVal
public import proofs.«01_k».proof.Proof.Ref.Run

@[expose] public section

set_option maxRecDepth 16384

noncomputable section

namespace Cert.Proof.Val

open Idealize.ShloMosaic Idealize.ShloMosaic.TcCoe
open Idealize.ShloMosaic.StableHlo (after launchContents)
open Idealize.SL Idealize.SL.Sem

section Reference

open Cert.ReferenceIdeal

/-- The reference's log-probabilities, of its arguments. -/
def refOf (E : FVec Ideal S128x4096x128 .f32) (W₁ : FVec Ideal S128x128 .f32) (b₁ : FVec Ideal S128 .f32) (W₂ : FVec Ideal S128x128 .f32)
    (b₂ : FVec Ideal S128 .f32) (W₃ : FVec Ideal S128x1 .f32) (b₃ : FVec Ideal S1 .f32) (idx : IVec S128x1024 32) (valid : IVec S128x1024 1) :
    FVec Ideal S128x1024 .f32 := Ref.softOf (Ref.maskOf valid (Ref.scoresOf (Ref.takeOf E idx) W₁ b₁ W₂ b₂ W₃ b₃))

theorem refOf_congr {E E' : FVec Ideal S128x4096x128 .f32} {W₁ W₁' : FVec Ideal S128x128 .f32} {b₁ b₁' : FVec Ideal S128 .f32}
    {W₂ W₂' : FVec Ideal S128x128 .f32} {b₂ b₂' : FVec Ideal S128 .f32} {W₃ W₃' : FVec Ideal S128x1 .f32} {b₃ b₃' : FVec Ideal S1 .f32}
    {idx idx' : IVec S128x1024 32} {valid valid' : IVec S128x1024 1} (h0 : E = E') (h2 : W₁ = W₁') (h3 : b₁ = b₁') (h4 : W₂ = W₂') (h5 : b₂ = b₂')
    (h6 : W₃ = W₃') (h7 : b₃ = b₃') (h8 : idx = idx') (h9 : valid = valid') :
    refOf E W₁ b₁ W₂ b₂ W₃ b₃ idx valid = refOf E' W₁' b₁' W₂' b₂' W₃' b₃' idx' valid' := by
  rw [h0, h2, h3, h4, h5, h6, h7, h8, h9]

/-- The reference's choices, of its log-probabilities, its masks and its noise. -/
def choiceOf (valid : IVec S128x1024 1) (p u : FVec Ideal S128x1024 .f32) : IVec S128 32 := Ref.placeOf (Ref.keysOf valid p u)

theorem choiceOf_congr {valid valid' : IVec S128x1024 1} {p p' u u' : FVec Ideal S128x1024 .f32} (h9 : valid = valid') (hp : p = p') (h1 : u = u') :
    choiceOf valid p u = choiceOf valid' p' u' := by
  rw [h9, hp, h1]

end Reference

/-! ## The kernel's results -/

section Kernel

open Cert.KernelIdeal Cert.KernelIdeal.Gen Cert.Proof.KerIdeal

variable (m : (ℓ : Loc nD τ sig) → Buf (Elt Ideal) ℓ) (d : Dev nD)

theorem W₅_logp : W₅ m d (Proc.devRef .tc main_v13_0) = logpArr (atTc (W₃ m)) nW d := by
  unfold W₅
  rw [StableHlo.after_of_writes_sub (W := [main_v14]) ops₃ _ (StableHlo.forall_writes_sub_of_map rfl) (by decide)]
  unfold W₄
  rw [Function.update_of_ne (by decide), Function.update_self]

theorem W₅_pick : W₅ m d (Proc.devRef .tc main_v14) = shapeCast S128 (pickArr (atTc (W₃ m)) nW d : S128x1.Idx → BitVec 32) shapeCasts_S128x1_S128 := by
  unfold W₅ ops₃
  after_results
  unfold W₄
  rw [Function.update_self]
  rfl

theorem shapeCast_column (f : S128x1.Idx → BitVec 32) (b : Fin 128) : shapeCast S128 f shapeCasts_S128x1_S128 (ix1 b) = f (ix2 b 0) := by
  pointwise

/-- The reference's log-probabilities of the kernel's arguments. -/
abbrev refLogp : FVec Ideal S128x1024 .f32 :=
  refOf (argAt m d main_arg0) (argAt m d main_arg2) (argAt m d main_arg3) (argAt m d main_arg4) (argAt m d main_arg5) (argAt m d main_arg6)
    (argAt m d main_arg7) (argAt m d main_arg8) (argAt m d main_arg9)

variable (h : ∀ j, ((argAt m d main_arg8 : S128x1024.Idx → BitVec 32) j).toNat < 4096)
include h

/-- A row of the reference's log-probabilities is the row function of the kernel's scores. -/
theorem refLogp_at (b : Fin 128) (k : Fin 1024) : refLogp m d (ix2 b k) = logp (scoresAt (atTc (W₃ m)) d b) k := by
  refine (softOf_at _ b k).trans (congrArg (fun f => logp f k) (funext fun i => ?_))
  refine (maskOf_at _ _ b i).trans ?_
  rw [scoresAt_eq m d h]
  refine congrArg (fun z => Scalar.select _ z low) ?_
  refine (scoresOf_at _ _ _ _ _ _ _ b i).trans ?_
  exact score_congr (takeOf_at _ _ h b i) (fun _ => rfl) (fun _ => rfl) rfl

/-- The log-probabilities agree. -/
theorem logp_same : W₅ m d (Proc.devRef .tc main_v13_0) = refLogp m d := by
  rw [W₅_logp]
  funext j
  obtain ⟨b, k, rfl⟩ : ∃ (b : Fin 128) (k : Fin 1024), j = (ix2 b k : S128x1024.Idx) := ⟨j 0, j 1, eq_ix2 j⟩
  exact (logpArr_at _ d nW b k).trans (refLogp_at m d h b k).symm

/-- The choices agree. -/
theorem pick_same : W₅ m d (Proc.devRef .tc main_v14) = choiceOf (argAt m d main_arg9) (refLogp m d) (argAt m d main_arg1) := by
  rw [W₅_pick]
  funext j
  obtain ⟨b, rfl⟩ : ∃ b : Fin 128, j = (ix1 b : S128.Idx) := ⟨j 0, eq_ix1 j⟩
  refine (shapeCast_column _ b).trans ?_
  have hk := pickArr_at (atTc (W₃ m)) d nW b 0
  have hr := argReduce_first (Ref.keysOf (argAt m d main_arg9) (refLogp m d) (argAt m d main_arg1)) b
  refine hk.unique ?_
  have e : (fun k => Ref.keysOf (argAt m d main_arg9) (refLogp m d) (argAt m d main_arg1) (ix2 b k))
      = keys (fun k => IntOp.cmpi .ne ((atTc (W₃ m) d main_v12 : S128x1024.Idx → BitVec 32) (ix2 b k)) 0#32) (logp (scoresAt (atTc (W₃ m)) d b))
        (fun k => (atTc (W₃ m) d main_arg1 : S128x1024.Idx → EReal) (ix2 b k)) := by
    funext k
    refine (keysOf_at _ _ _ b k).trans ?_
    have e₁ : (fun i => refLogp m d (ix2 b i)) = logp (scoresAt (atTc (W₃ m)) d b) := funext fun i => refLogp_at m d h b i
    have e₂ : (fun i => IntOp.cmpi .ne ((atTc (W₃ m) d main_v12 : S128x1024.Idx → BitVec 32) (ix2 b i)) 0#32)
        = fun i => (argAt m d main_arg9 : S128x1024.Idx → BitVec 1) (ix2 b i) := funext fun i => by
      unfold atTc
      rw [W₃_v12, mask_back]
    have e₃ : atTc (W₃ m) d main_arg1 = argAt m d main_arg1 := W₃_arg m d main_arg1 (by decide)
    rw [e₁, e₂, e₃]
  rw [e] at hr
  exact hr

end Kernel

/-! ## The claim -/

/-- `Cert.algebraic_KernelIdeal_ReferenceIdeal` (Defs.lean). -/
theorem algebraic : Cert.algebraic_KernelIdeal_ReferenceIdeal := by
  intro m g m' g' hpre hargs
  refine ⟨fun c => KerIdeal.W₅ m c (Proc.devRef .tc Cert.KernelIdeal.main_v13_0), fun c => KerIdeal.W₅ m c (Proc.devRef .tc Cert.KernelIdeal.main_v14), ?_, ?_⟩
  · refine (θ_run Cert.KernelIdeal.defs _ _).mono (fun r h c => ?_)
      (KerIdeal.run_main (F := Ideal) m g (KerIdeal.fI_lt m (KerIdeal.ok_of_pre m hpre)))
    exact ⟨KerIdeal.QC_at m h c _ rfl, KerIdeal.QC_at m h c _ rfl, KerIdeal.args_kept m h c⟩
  · refine (θ_run Cert.ReferenceIdeal.defs _ _).mono (fun r h c => ?_) (Ref.run_main (F := Ideal) m' g')
    have hin := KerIdeal.ok_of_pre m hpre c
    obtain ⟨a0, a1, a2, a3, a4, a5, a6, a7, a8, a9⟩ := hargs c
    have e : after Ref.ops (launchContents m' c) (Proc.devRef .tc Cert.ReferenceIdeal.main_v18) = refLogp m c := by
      exact (Ref.logp_eq _).trans (refOf_congr a0 a2 a3 a4 a5 a6 a7 a8 a9)
    refine ⟨(h c _).trans (e.trans (logp_same m c hin).symm), (h c _).trans ?_, Ref.args_kept m' h c⟩
    exact (Ref.choice_eq _).trans ((choiceOf_congr a9 e a1).trans (pick_same m c hin).symm)

end Cert.Proof.Val

end
-- ==== Proof.lean ====
/- The claims of this certificate, from the modules that prove them. -/
module

public import proofs.«01_k».proof.Defs
public import proofs.«01_k».proof.Proof.Ker.Frame
public import proofs.«01_k».proof.Proof.KerIdeal.Frame
public import proofs.«01_k».proof.Proof.Ref.Run
public import proofs.«01_k».proof.Proof.Val.Equation

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_next_op_in_range.Gen.facts,
  Ker.frame, KerIdeal.frame, Ref.frame, fun m ρ _ => Ref.frame m ρ trivial, trivial, Val.algebraic⟩

end Cert.Proof

end
